-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepReference (m : (ℓ : Loc Cert.PrepReference.nD Cert.PrepReference.τ Cert.PrepReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0))
      ∧ r.2.sem = fun _ => 0)

def quiescent_PrepReference [hPrepReference : Cert.PrepReference.Facts] : Prop :=
  ∀ (m : (ℓ : Loc Cert.PrepReference.nD Cert.PrepReference.τ Cert.PrepReference.sig) → Buf (Elt Bits) ℓ) (g : Dev Cert.PrepReference.nD → PrngReg), Pre_PrepReference m →
    θ_run (Cert.PrepReference.defs (F := Bits)) (onTc (τ := Cert.PrepReference.τ) (Cert.PrepReference.main (F := Bits))) ⟨m, fun _ => 0, g⟩ (fun r => (∀ c : Dev Cert.PrepReference.nD,
      r.2.mem ((c.tc : Thread Cert.PrepReference.nD Cert.PrepReference.τ).loc Cert.PrepReference.main_arg0) = m ((c.tc : Thread Cert.PrepReference.nD Cert.PrepReference.τ).loc Cert.PrepReference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def bitexact_Prep_PrepReference [hPrep : Cert.Prep.Facts] [hPrepReference : Cert.PrepReference.Facts] : Prop :=
  ∀ (m : (ℓ : Loc Cert.Prep.nD Cert.Prep.τ Cert.Prep.sig) → Buf (Elt Bits) ℓ) (g : Dev Cert.Prep.nD → PrngReg)
    (m' : (ℓ : Loc Cert.PrepReference.nD Cert.PrepReference.τ Cert.PrepReference.sig) → Buf (Elt Bits) ℓ) (g' : Dev Cert.PrepReference.nD → PrngReg), Pre_Prep m →
    (∀ c : Dev Cert.Prep.nD,
      m' ((c.tc : Thread Cert.PrepReference.nD Cert.PrepReference.τ).loc Cert.PrepReference.main_arg0) = m ((c.tc : Thread Cert.Prep.nD Cert.Prep.τ).loc Cert.Prep.main_arg0)) →
    ∃ (v0 : (c : Dev Cert.Prep.nD) → Buf (Elt Bits) ((c.tc : Thread Cert.Prep.nD Cert.Prep.τ).loc Cert.Prep.main_v1)),
      θ_run (Cert.Prep.defs (F := Bits)) (onTc (τ := Cert.Prep.τ) (Cert.Prep.main (F := Bits))) ⟨m, fun _ => 0, g⟩ (fun r => ∀ c : Dev Cert.Prep.nD,
          r.2.mem ((c.tc : Thread Cert.Prep.nD Cert.Prep.τ).loc Cert.Prep.main_v1) = v0 c
          ∧ r.2.mem ((c.tc : Thread Cert.Prep.nD Cert.Prep.τ).loc Cert.Prep.main_arg0) = m ((c.tc : Thread Cert.Prep.nD Cert.Prep.τ).loc Cert.Prep.main_arg0))
      ∧ θ_run (Cert.PrepReference.defs (F := Bits)) (onTc (τ := Cert.PrepReference.τ) (Cert.PrepReference.main (F := Bits))) ⟨m', fun _ => 0, g'⟩ (fun r => ∀ c : Dev Cert.PrepReference.nD,
          r.2.mem ((c.tc : Thread Cert.PrepReference.nD Cert.PrepReference.τ).loc Cert.PrepReference.main_v3) = v0 c
          ∧ r.2.mem ((c.tc : Thread Cert.PrepReference.nD Cert.PrepReference.τ).loc Cert.PrepReference.main_arg0) = m' ((c.tc : Thread Cert.PrepReference.nD Cert.PrepReference.τ).loc Cert.PrepReference.main_arg0))

def Claim : Prop :=
  ∃ (hKernel : Cert.Kernel.Facts) (hKernelIdeal : Cert.KernelIdeal.Facts) (hReferenceIdeal : Cert.ReferenceIdeal.Facts) (hPrep : Cert.Prep.Facts) (hPrepReference : Cert.PrepReference.Facts),
    quiescent_Kernel (hKernel := hKernel)
    ∧ quiescent_KernelIdeal (hKernelIdeal := hKernelIdeal)
    ∧ quiescent_ReferenceIdeal (hReferenceIdeal := hReferenceIdeal)
    ∧ quiescent_Prep (hPrep := hPrep)
    ∧ quiescent_PrepReference (hPrepReference := hPrepReference)
    ∧ preserves_Kernel_KernelIdeal
    ∧ algebraic_KernelIdeal_ReferenceIdeal (hKernelIdeal := hKernelIdeal) (hReferenceIdeal := hReferenceIdeal)
    ∧ bitexact_Prep_PrepReference (hPrep := hPrep) (hPrepReference := hPrepReference)
-- ==== Kernel.lean ====
abbrev S27x32768x128 : Shape := ⟨3, ![27, 32768, 128]⟩
abbrev S6x27x65536 : Shape := ⟨3, ![6, 27, 65536]⟩
abbrev S27x256x192 : Shape := ⟨3, ![27, 256, 192]⟩
abbrev S27x192 : Shape := ⟨2, ![27, 192]⟩
abbrev S192 : Shape := ⟨1, ![192]⟩
abbrev S27x4x64x192 : Shape := ⟨4, ![27, 4, 64, 192]⟩
abbrev S27x192x64x4 : Shape := ⟨4, ![27, 192, 64, 4]⟩
abbrev S27x192x256 : Shape := ⟨3, ![27, 192, 256]⟩
abbrev S27x192x1 : Shape := ⟨3, ![27, 192, 1]⟩
abbrev S27x192x128 : Shape := ⟨3, ![27, 192, 128]⟩
abbrev S192x1 : Shape := ⟨2, ![192, 1]⟩
abbrev S192x128 : Shape := ⟨2, ![192, 128]⟩
abbrev S6x192x65536 : Shape := ⟨3, ![6, 192, 65536]⟩
abbrev S27x256x128 : Shape := ⟨3, ![27, 256, 128]⟩
abbrev S1x27x512 : Shape := ⟨3, ![1, 27, 512]⟩
abbrev S1x192x512 : Shape := ⟨3, ![1, 192, 512]⟩
abbrev S192x256 : Shape := ⟨2, ![192, 256]⟩
abbrev S1x1x256 : Shape := ⟨3, ![1, 1, 256]⟩
abbrev S256 : Shape := ⟨1, ![256]⟩
abbrev S1x256 : Shape := ⟨2, ![1, 256]⟩
abbrev S1x128x128 : Shape := ⟨3, ![1, 128, 128]⟩
abbrev S128x128 : Shape := ⟨2, ![128, 128]⟩
abbrev S64x128 : Shape := ⟨2, ![64, 128]⟩
abbrev S64x256 : Shape := ⟨2, ![64, 256]⟩
abbrev S256x256 : Shape := ⟨2, ![256, 256]⟩
abbrev S1x192x256 : Shape := ⟨3, ![1, 192, 256]⟩
abbrev S1x192x128 : Shape := ⟨3, ![1, 192, 128]⟩
abbrev S6x65536x192 : Shape := ⟨3, ![6, 65536, 192]⟩

abbrev nBuf : Space → Nat
  | .hbm => 24
  | .vmem => 60
  | .smem => 0
  | _ => 0

abbrev bufTy : (tb : Table) → Fin (tcTables nBuf tb) → BufTy
  | .hbm, ⟨0, _⟩ => ⟨S27x32768x128, .i32⟩
  | .hbm, ⟨1, _⟩ => ⟨S27x32768x128, .i32⟩
  | .hbm, ⟨2, _⟩ => ⟨S27x32768x128, .i32⟩
  | .hbm, ⟨3, _⟩ => ⟨S27x32768x128, .i32⟩
  | .hbm, ⟨4, _⟩ => ⟨S27x32768x128, .i32⟩
  | .hbm, ⟨5, _⟩ => ⟨S27x32768x128, .i32⟩
  | .hbm, ⟨6, _⟩ => ⟨S6x27x65536, .f32⟩
  | .hbm, ⟨7, _⟩ => ⟨S27x256x192, .fp8e4m3⟩
  | .hbm, ⟨8, _⟩ => ⟨S27x192, .f32⟩
  | .hbm, ⟨9, _⟩ => ⟨S192, .f32⟩
  | .hbm, ⟨10, _⟩ => ⟨S27x4x64x192, .fp8e4m3⟩
  | .hbm, ⟨11, _⟩ => ⟨S27x192x64x4, .fp8e4m3⟩
  | .hbm, ⟨12, _⟩ => ⟨S27x192x256, .fp8e4m3⟩
  | .hbm, ⟨13, _⟩ => ⟨S27x192x1, .f32⟩
  | .hbm, ⟨14, _⟩ => ⟨S27x192x128, .f32⟩
  | .hbm, ⟨15, _⟩ => ⟨S192x1, .f32⟩
  | .hbm, ⟨16, _⟩ => ⟨S192x128, .f32⟩
  | .hbm, ⟨17, _⟩ => ⟨S6x192x65536, .f32⟩
  | .hbm, ⟨18, _⟩ => ⟨S6x192x65536, .f32⟩
  | .hbm, ⟨19, _⟩ => ⟨S6x192x65536, .f32⟩
  | .hbm, ⟨20, _⟩ => ⟨S6x192x65536, .f32⟩
  | .hbm, ⟨21, _⟩ => ⟨S6x192x65536, .f32⟩
  | .hbm, ⟨22, _⟩ => ⟨S6x192x65536, .f32⟩
  | .hbm, ⟨23, _⟩ => ⟨S6x65536x192, .f32⟩
  | .local _ .vmem, ⟨0, _⟩ => ⟨S27x256x128, .i32⟩
  | .local _ .vmem, ⟨1, _⟩ => ⟨S27x256x128, .i32⟩
  | .local _ .vmem, ⟨2, _⟩ => ⟨S1x27x512, .f32⟩
  | .local _ .vmem, ⟨3, _⟩ => ⟨S1x27x512, .f32⟩
  | .local _ .vmem, ⟨4, _⟩ => ⟨S27x192x256, .fp8e4m3⟩
  | .local _ .vmem, ⟨5, _⟩ => ⟨S27x192x128, .f32⟩
  | .local _ .vmem, ⟨6, _⟩ => ⟨S192x128, .f32⟩
  | .local _ .vmem, ⟨7, _⟩ => ⟨S1x192x512, .f32⟩
  | .local _ .vmem, ⟨8, _⟩ => ⟨S1x192x512, .f32⟩
  | .local _ .vmem, ⟨9, _⟩ => ⟨S192x256, .f32⟩
  | .local _ .vmem, ⟨10, _⟩ => ⟨S27x256x128, .i32⟩
  | .local _ .vmem, ⟨11, _⟩ => ⟨S27x256x128, .i32⟩
  | .local _ .vmem, ⟨12, _⟩ => ⟨S1x27x512, .f32⟩
  | .local _ .vmem, ⟨13, _⟩ => ⟨S1x27x512, .f32⟩
  | .local _ .vmem, ⟨14, _⟩ => ⟨S27x192x256, .fp8e4m3⟩
  | .local _ .vmem, ⟨15, _⟩ => ⟨S27x192x128, .f32⟩
  | .local _ .vmem, ⟨16, _⟩ => ⟨S192x128, .f32⟩
  | .local _ .vmem, ⟨17, _⟩ => ⟨S1x192x512, .f32⟩
  | .local _ .vmem, ⟨18, _⟩ => ⟨S1x192x512, .f32⟩
  | .local _ .vmem, ⟨19, _⟩ => ⟨S192x256, .f32⟩
  | .local _ .vmem, ⟨20, _⟩ => ⟨S27x256x128, .i32⟩
  | .local _ .vmem, ⟨21, _⟩ => ⟨S27x256x128, .i32⟩
  | .local _ .vmem, ⟨22, _⟩ => ⟨S1x27x512, .f32⟩
  | .local _ .vmem, ⟨23, _⟩ => ⟨S1x27x512, .f32⟩
  | .local _ .vmem, ⟨24, _⟩ => ⟨S27x192x256, .fp8e4m3⟩
  | .local _ .vmem, ⟨25, _⟩ => ⟨S27x192x128, .f32⟩
  | .local _ .vmem, ⟨26, _⟩ => ⟨S192x128, .f32⟩
  | .local _ .vmem, ⟨27, _⟩ => ⟨S1x192x512, .f32⟩
  | .local _ .vmem, ⟨28, _⟩ => ⟨S1x192x512, .f32⟩
  | .local _ .vmem, ⟨29, _⟩ => ⟨S192x256, .f32⟩
  | .local _ .vmem, ⟨30, _⟩ => ⟨S27x256x128, .i32⟩
  | .local _ .vmem, ⟨31, _⟩ => ⟨S27x256x128, .i32⟩
  | .local _ .vmem, ⟨32, _⟩ => ⟨S1x27x512, .f32⟩
  | .local _ .vmem, ⟨33, _⟩ => ⟨S1x27x512, .f32⟩
  | .local _ .vmem, ⟨34, _⟩ => ⟨S27x192x256, .fp8e4m3⟩
  | .local _ .vmem, ⟨35, _⟩ => ⟨S27x192x128, .f32⟩
  | .local _ .vmem, ⟨36, _⟩ => ⟨S192x128, .f32⟩
  | .local _ .vmem, ⟨37, _⟩ => ⟨S1x192x512, .f32⟩
  | .local _ .vmem, ⟨38, _⟩ => ⟨S1x192x512, .f32⟩
  | .local _ .vmem, ⟨39, _⟩ => ⟨S192x256, .f32⟩
  | .local _ .vmem, ⟨40, _⟩ => ⟨S27x256x128, .i32⟩
  | .local _ .vmem, ⟨41, _⟩ => ⟨S27x256x128, .i32⟩
  | .local _ .vmem, ⟨42, _⟩ => ⟨S1x27x512, .f32⟩
  | .local _ .vmem, ⟨43, _⟩ => ⟨S1x27x512, .f32⟩
  | .local _ .vmem, ⟨44, _⟩ => ⟨S27x192x256, .fp8e4m3⟩
  | .local _ .vmem, ⟨45, _⟩ => ⟨S27x192x128, .f32⟩
  | .local _ .vmem, ⟨46, _⟩ => ⟨S192x128, .f32⟩
  | .local _ .vmem, ⟨47, _⟩ => ⟨S1x192x512, .f32⟩
  | .local _ .vmem, ⟨48, _⟩ => ⟨S1x192x512, .f32⟩
  | .local _ .vmem, ⟨49, _⟩ => ⟨S192x256, .f32⟩
  | .local _ .vmem, ⟨50, _⟩ => ⟨S27x256x128, .i32⟩
  | .local _ .vmem, ⟨51, _⟩ => ⟨S27x256x128, .i32⟩
  | .local _ .vmem, ⟨52, _⟩ => ⟨S1x27x512, .f32⟩
  | .local _ .vmem, ⟨53, _⟩ => ⟨S1x27x512, .f32⟩
  | .local _ .vmem, ⟨54, _⟩ => ⟨S27x192x256, .fp8e4m3⟩
  | .local _ .vmem, ⟨55, _⟩ => ⟨S27x192x128, .f32⟩
  | .local _ .vmem, ⟨56, _⟩ => ⟨S192x128, .f32⟩
  | .local _ .vmem, ⟨57, _⟩ => ⟨S1x192x512, .f32⟩
  | .local _ .vmem, ⟨58, _⟩ => ⟨S1x192x512, .f32⟩
  | .local _ .vmem, ⟨59, _⟩ => ⟨S192x256, .f32⟩
  | _, _ => ⟨S27x32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_scratch0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc3_scratch0 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg5_1 : Ref sig .tc := ⟨.vmem, 48, rfl⟩
abbrev cc4_scratch0 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg5_1 : Ref sig .tc := ⟨.vmem, 58, rfl⟩
abbrev cc5_scratch0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S27x256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x27x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S27x192x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S27x192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x192x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

abbrev stage1_0 : Fin 2 → Memref sig .tc .vmem S27x256x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x27x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S27x192x256 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S27x192x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S192x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x192x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![128], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

abbrev stage2_0 : Fin 2 → Memref sig .tc .vmem S27x256x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x27x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S27x192x256 .fp8e4m3 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S27x192x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S192x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x192x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![128], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

abbrev stage3_0 : Fin 2 → Memref sig .tc .vmem S27x256x128 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x27x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S27x192x256 .fp8e4m3 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S27x192x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S192x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x192x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![128], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat, arg0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat, arg0.toNat]

abbrev stage4_0 : Fin 2 → Memref sig .tc .vmem S27x256x128 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x27x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S27x192x256 .fp8e4m3 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S27x192x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S192x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x192x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![128], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat, arg0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat, arg0.toNat]

abbrev stage5_0 : Fin 2 → Memref sig .tc .vmem S27x256x128 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x27x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S27x192x256 .fp8e4m3 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S27x192x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S192x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1x192x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]
-- ==== ReferenceIdeal.lean ====
abbrev S27x32768x128 : Shape := ⟨3, ![27, 32768, 128]⟩
abbrev S6x27x65536 : Shape := ⟨3, ![6, 27, 65536]⟩
abbrev S27x256x192 : Shape := ⟨3, ![27, 256, 192]⟩
abbrev S27x192 : Shape := ⟨2, ![27, 192]⟩
abbrev S192 : Shape := ⟨1, ![192]⟩
abbrev S27x256x128x2x64 : Shape := ⟨5, ![27, 256, 128, 2, 64]⟩
abbrev S27x256x128x2x64x4 : Shape := ⟨6, ![27, 256, 128, 2, 64, 4]⟩
abbrev S27x256x2x128x4x64 : Shape := ⟨6, ![27, 256, 2, 128, 4, 64]⟩
abbrev S27x65536x256 : Shape := ⟨3, ![27, 65536, 256]⟩
abbrev S6x65536x192 : Shape := ⟨3, ![6, 65536, 192]⟩
abbrev S27x65536x192 : Shape := ⟨3, ![27, 65536, 192]⟩
abbrev S1x27x65536 : Shape := ⟨3, ![1, 27, 65536]⟩
abbrev S27x65536 : Shape := ⟨2, ![27, 65536]⟩
abbrev S27x65536x1 : Shape := ⟨3, ![27, 65536, 1]⟩
abbrev S27x1x192 : Shape := ⟨3, ![27, 1, 192]⟩
abbrev S65536x192 : Shape := ⟨2, ![65536, 192]⟩
abbrev S1x192 : Shape := ⟨2, ![1, 192]⟩
abbrev S1x65536x192 : Shape := ⟨3, ![1, 65536, 192]⟩

abbrev nBuf : Space → Nat
  | .hbm => 35
  | .vmem => 11
  | .smem => 0
  | _ => 0

abbrev bufTy : (tb : Table) → Fin (tcTables nBuf tb) → BufTy
  | .hbm, ⟨0, _⟩ => ⟨S27x32768x128, .i32⟩
  | .hbm, ⟨1, _⟩ => ⟨S27x32768x128, .i32⟩
  | .hbm, ⟨2, _⟩ => ⟨S27x32768x128, .i32⟩
  | .hbm, ⟨3, _⟩ => ⟨S27x32768x128, .i32⟩
  | .hbm, ⟨4, _⟩ => ⟨S27x32768x128, .i32⟩
  | .hbm, ⟨5, _⟩ => ⟨S27x32768x128, .i32⟩
  | .hbm, ⟨6, _⟩ => ⟨S6x27x65536, .f32⟩
  | .hbm, ⟨7, _⟩ => ⟨S27x256x192, .fp8e4m3⟩
  | .hbm, ⟨8, _⟩ => ⟨S27x192, .f32⟩
  | .hbm, ⟨9, _⟩ => ⟨S192, .f32⟩
  | .hbm, ⟨10, _⟩ => ⟨S27x256x128x2x64, .i32⟩
  | .hbm, ⟨11, _⟩ => ⟨S27x256x128x2x64x4, .fp8e4m3⟩
  | .hbm, ⟨12, _⟩ => ⟨S27x256x2x128x4x64, .fp8e4m3⟩
  | .hbm, ⟨13, _⟩ => ⟨S27x65536x256, .fp8e4m3⟩
  | .hbm, ⟨14, _⟩ => ⟨S27x256x128x2x64, .i32⟩
  | .hbm, ⟨15, _⟩ => ⟨S27x256x128x2x64x4, .fp8e4m3⟩
  | .hbm, ⟨16, _⟩ => ⟨S27x256x2x128x4x64, .fp8e4m3⟩
  | .hbm, ⟨17, _⟩ => ⟨S27x65536x256, .fp8e4m3⟩
  | .hbm, ⟨18, _⟩ => ⟨S27x256x128x2x64, .i32⟩
  | .hbm, ⟨19, _⟩ => ⟨S27x256x128x2x64x4, .fp8e4m3⟩
  | .hbm, ⟨20, _⟩ => ⟨S27x256x2x128x4x64, .fp8e4m3⟩
  | .hbm, ⟨21, _⟩ => ⟨S27x65536x256, .fp8e4m3⟩
  | .hbm, ⟨22, _⟩ => ⟨S27x256x128x2x64, .i32⟩
  | .hbm, ⟨23, _⟩ => ⟨S27x256x128x2x64x4, .fp8e4m3⟩
  | .hbm, ⟨24, _⟩ => ⟨S27x256x2x128x4x64, .fp8e4m3⟩
  | .hbm, ⟨25, _⟩ => ⟨S27x65536x256, .fp8e4m3⟩
  | .hbm, ⟨26, _⟩ => ⟨S27x256x128x2x64, .i32⟩
  | .hbm, ⟨27, _⟩ => ⟨S27x256x128x2x64x4, .fp8e4m3⟩
  | .hbm, ⟨28, _⟩ => ⟨S27x256x2x128x4x64, .fp8e4m3⟩
  | .hbm, ⟨29, _⟩ => ⟨S27x65536x256, .fp8e4m3⟩
  | .hbm, ⟨30, _⟩ => ⟨S27x256x128x2x64, .i32⟩
  | .hbm, ⟨31, _⟩ => ⟨S27x256x128x2x64x4, .fp8e4m3⟩
  | .hbm, ⟨32, _⟩ => ⟨S27x256x2x128x4x64, .fp8e4m3⟩
  | .hbm, ⟨33, _⟩ => ⟨S27x65536x256, .fp8e4m3⟩
  | .hbm, ⟨34, _⟩ => ⟨S6x65536x192, .f32⟩
  | .local _ .vmem, ⟨0, _⟩ => ⟨S27x65536x256, .fp8e4m3⟩
  | .local _ .vmem, ⟨1, _⟩ => ⟨S27x65536x256, .fp8e4m3⟩
  | .local _ .vmem, ⟨2, _⟩ => ⟨S27x65536x256, .fp8e4m3⟩
  | .local _ .vmem, ⟨3, _⟩ => ⟨S27x65536x256, .fp8e4m3⟩
  | .local _ .vmem, ⟨4, _⟩ => ⟨S27x65536x256, .fp8e4m3⟩
  | .local _ .vmem, ⟨5, _⟩ => ⟨S27x65536x256, .fp8e4m3⟩
  | .local _ .vmem, ⟨6, _⟩ => ⟨S6x27x65536, .f32⟩
  | .local _ .vmem, ⟨7, _⟩ => ⟨S27x256x192, .fp8e4m3⟩
  | .local _ .vmem, ⟨8, _⟩ => ⟨S27x192, .f32⟩
  | .local _ .vmem, ⟨9, _⟩ => ⟨S192, .f32⟩
  | .local _ .vmem, ⟨10, _⟩ => ⟨S6x65536x192, .f32⟩
  | _, _ => ⟨S27x32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S27x65536x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27x65536x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27x65536x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S27x65536x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S27x65536x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S27x65536x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x27x65536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S27x256x192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S27x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x65536x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Prep.lean ====
abbrev S6x65536x256 : Shape := ⟨3, ![6, 65536, 256]⟩
abbrev S393216x256 : Shape := ⟨2, ![393216, 256]⟩
abbrev S196608x128 : Shape := ⟨2, ![196608, 128]⟩
abbrev S4096x256 : Shape := ⟨2, ![4096, 256]⟩
abbrev S2048x128 : Shape := ⟨2, ![2048, 128]⟩
abbrev S1024x256 : Shape := ⟨2, ![1024, 256]⟩
abbrev S1024x128 : Shape := ⟨2, ![1024, 128]⟩

abbrev nBuf : Space → Nat
  | .hbm => 3
  | .vmem => 4
  | .smem => 0
  | _ => 0

abbrev bufTy : (tb : Table) → Fin (tcTables nBuf tb) → BufTy
  | .hbm, ⟨0, _⟩ => ⟨S6x65536x256, .fp8e4m3⟩
  | .hbm, ⟨1, _⟩ => ⟨S393216x256, .fp8e4m3⟩
  | .hbm, ⟨2, _⟩ => ⟨S196608x128, .i32⟩
  | .local _ .vmem, ⟨0, _⟩ => ⟨S4096x256, .fp8e4m3⟩
  | .local _ .vmem, ⟨1, _⟩ => ⟨S4096x256, .fp8e4m3⟩
  | .local _ .vmem, ⟨2, _⟩ => ⟨S2048x128, .i32⟩
  | .local _ .vmem, ⟨3, _⟩ => ⟨S2048x128, .i32⟩
  | _, _ => ⟨S6x65536x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PrepReference.lean ====
abbrev S6x65536x256 : Shape := ⟨3, ![6, 65536, 256]⟩
abbrev S393216x4x64 : Shape := ⟨3, ![393216, 4, 64]⟩
abbrev S393216x64x4 : Shape := ⟨3, ![393216, 64, 4]⟩
abbrev S393216x64 : Shape := ⟨2, ![393216, 64]⟩
abbrev S196608x128 : Shape := ⟨2, ![196608, 128]⟩

abbrev nBuf : Space → Nat
  | .hbm => 5
  | .vmem => 0
  | .smem => 0
  | _ => 0

abbrev bufTy : (tb : Table) → Fin (tcTables nBuf tb) → BufTy
  | .hbm, ⟨0, _⟩ => ⟨S6x65536x256, .fp8e4m3⟩
  | .hbm, ⟨1, _⟩ => ⟨S393216x4x64, .fp8e4m3⟩
  | .hbm, ⟨2, _⟩ => ⟨S393216x64x4, .fp8e4m3⟩
  | .hbm, ⟨3, _⟩ => ⟨S393216x64, .i32⟩
  | .hbm, ⟨4, _⟩ => ⟨S196608x128, .i32⟩
  | _, _ => ⟨S6x65536x256, .fp8e4m3⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [BitOps F]
-- ==== Proof.Body.lean ====
/-
  What one grid point of a convolution region stores, as a recursion over the 27 offsets.

  The body handles two groups of 256 voxels. For each group it forms 27 products (one per offset), adds them up in
  the scratch array and stores the total plus the bias. The six regions have the same body, so their stores are the
  same list of pieces, `pieces`, of the region's five input blocks.
-/
module

public import proofs.«01_k».proof.Proof.Gen.KernelIdeal.Frame
public import Idealize.ShloMosaic.Lib.VecWindow
public import Idealize.ShloMosaic.Lib.WholeRead
public import Idealize.ShloMosaic.Lib.Pipeline.Value

@[expose] public section

set_option maxRecDepth 16384

noncomputable section

namespace Cert.Proof.Conv

open Cert.KernelIdeal Cert.KernelIdeal.Gen
open Idealize.ShloMosaic Idealize.ShloMosaic.TcCoe Idealize.ShloMosaic.Tactic

variable {F : FTy → Type} [FloatOps F]

/-! ## One offset's product, from the blocks it loads -/

/-- The product of one offset for 256 voxels: the gathered words laid channel by voxel, the words of a voxel without a
    partner zeroed, their bytes read as codes, multiplied by the weights and scaled. -/
def prodOf (xs : Vec F S1x1x256 .f32) (g : Vec F S1x128x128 .i32) (w : Vec F S1x192x256 .fp8e4m3) (ws : Vec F S1x192x128 .f32) :
    FVec F S192x256 .f32 :=
  let x : FVec F S1x256 .f32 := shapeCast S1x256 (shapeCast S256 xs shapeCasts_S1x1x256_S256) shapeCasts_S256_S1x256
  let gt : IVec S128x128 32 := transpose S128x128 [1, 0] (shapeCast S128x128 g shapeCasts_S1x128x128_S128x128) transposes_S128x128_p1_0_S128x128
  let words : IVec S64x256 32 := concatenate S64x256 1 [⟨S64x128, extractStridedSlice S64x128 ![0, 0] gt slices_S128x128_o0_0_S64x128⟩,
    ⟨S64x128, extractStridedSlice S64x128 ![64, 0] gt slices_S128x128_o64_0_S64x128⟩] concatenates_S64x128_S64x128_S64x256_d1
  let partner : IVec S1x256 1 := cmpf .one x (broadcast S1x256 (Scalar.ofBits .f32 0x00000000#32))
  let kept : IVec S64x256 32 := select (broadcastTo S64x256 (shapeCast S1x256 partner shapeCasts_S1x256_S1x256) broadcasts_S1x256_S64x256) words
    (broadcast S64x256 0#32)
  let rhs : FVec F S256x256 .fp8e4m3 := bitcastToFloat .fp8e4m3 (bitcast S256x256 8 kept bitcasts_S64x256_w32_S256x256_w8)
  let scale : FVec F S192x128 .f32 := shapeCast S192x128 ws shapeCasts_S1x192x128_S192x128
  mulf (matmul dot_S192x256_S256x256_S192x256_1_0_0_1_n_n none (shapeCast S192x256 w shapeCasts_S1x192x256_S192x256) rhs
      (constant S192x256 .f32 0x00000000#32))
    (mulf (concatenate S192x256 1 [⟨S192x128, scale⟩, ⟨S192x128, scale⟩] concatenates_S192x128_S192x128_S192x256_d1)
      (broadcastTo S192x256 x broadcasts_S1x256_S192x256))

/-- The total of a group with the bias added, as the output block holds it. -/
def outOf (b : Vec F S192x128 .f32) (acc : Vec F S192x256 .f32) : FVec F S1x192x256 .f32 :=
  let bias : FVec F S192x128 .f32 := shapeCast S192x128 b shapeCasts_S192x128_S192x128
  shapeCast S1x192x256 (addf acc (concatenate S192x256 1 [⟨S192x128, bias⟩, ⟨S192x128, bias⟩] concatenates_S192x128_S192x128_S192x256_d1))
    shapeCasts_S192x256_S1x192x256

/-! ## The rectangles of a group's loads -/

theorem inb_xs {k s : Nat} (hk : k < 27) (hs : s < 2) : ∀ a, (![0, k, 256 * s] : Fin 3 → Nat) a + S1x1x256.size a ≤ S1x27x512.size a
  | ⟨0, _⟩ => (by decide : 0 + 1 ≤ 1)
  | ⟨1, _⟩ => hk
  | ⟨2, _⟩ => (by omega : 256 * s + 256 ≤ 512)
theorem inb_g {k s : Nat} (hk : k < 27) (hs : s < 2) : ∀ a, (![k, 128 * s, 0] : Fin 3 → Nat) a + S1x128x128.size a ≤ S27x256x128.size a
  | ⟨0, _⟩ => hk
  | ⟨1, _⟩ => (by omega : 128 * s + 128 ≤ 256)
  | ⟨2, _⟩ => (by decide : 0 + 128 ≤ 128)
theorem inb_w {k : Nat} (hk : k < 27) : ∀ a, (![k, 0, 0] : Fin 3 → Nat) a + S1x192x256.size a ≤ S27x192x256.size a
  | ⟨0, _⟩ => hk
  | ⟨1, _⟩ => (by decide : 0 + 192 ≤ 192)
  | ⟨2, _⟩ => (by decide : 0 + 256 ≤ 256)
theorem inb_ws {k : Nat} (hk : k < 27) : ∀ a, (![k, 0, 0] : Fin 3 → Nat) a + S1x192x128.size a ≤ S27x192x128.size a
  | ⟨0, _⟩ => hk
  | ⟨1, _⟩ => (by decide : 0 + 192 ≤ 192)
  | ⟨2, _⟩ => (by decide : 0 + 128 ≤ 128)

section Body

variable (arg1 : Memref sig .tc .vmem S27x256x128 .i32) (harg1 : arg1.IsWhole) (arg2 : Memref sig .tc .vmem S1x27x512 .f32) (harg2 : arg2.IsWhole)
  (arg3 : Memref sig .tc .vmem S27x192x256 .fp8e4m3) (harg3 : arg3.IsWhole) (arg4 : Memref sig .tc .vmem S27x192x128 .f32) (harg4 : arg4.IsWhole)
  (arg5 : Memref sig .tc .vmem S192x128 .f32) (harg5 : arg5.IsWhole) (arg7 : Memref sig .tc .vmem S192x256 .f32)
  (x0 : Vec F S27x256x128 .i32) (x1 : Vec F S1x27x512 .f32) (x2 : Vec F S27x192x256 .fp8e4m3) (x3 : Vec F S27x192x128 .f32) (x4 : Vec F S192x128 .f32)

/-- The product of offset `k` for group `s`, read off the staged blocks. -/
def prodAt (s k : Nat) (hs : s < 2) (hk : k < 27) : FVec F S192x256 .f32 :=
  prodOf (View.readAt (Elt F) arg2.view (Rect.unit (s := S1x27x512) ![0, k, 256 * s] S1x1x256.size (inb_xs hk hs)).toLoadRect (harg2.unread x1))
    (View.readAt (Elt F) arg1.view (Rect.unit (s := S27x256x128) ![k, 128 * s, 0] S1x128x128.size (inb_g hk hs)).toLoadRect (harg1.unread x0))
    (View.readAt (Elt F) arg3.view (Rect.unit (s := S27x192x256) ![k, 0, 0] S1x192x256.size (inb_w hk)).toLoadRect (harg3.unread x2))
    (View.readAt (Elt F) arg4.view (Rect.unit (s := S27x192x128) ![k, 0, 0] S1x192x128.size (inb_ws hk)).toLoadRect (harg4.unread x3))

/-- The scratch array after `L` and the steps of offsets `0 … k` of group `s`, as the list of its stores, last first. -/
def accs (s : Nat) (hs : s < 2) (L : List (View.Piece (Elt F) S192x256 .f32)) : (k : Nat) → k < 27 → List (View.Piece (Elt F) S192x256 .f32)
  | 0, hk => ⟨Rect.unit ![0, 0] S192x256.size inb_S192x256_S192x256_0_0,
      shapeCast S192x256 (prodAt arg1 harg1 arg2 harg2 arg3 harg3 arg4 harg4 x0 x1 x2 x3 s 0 hs hk) shapeCasts_S192x256_S192x256⟩ :: L
  | k + 1, hk => ⟨Rect.unit ![0, 0] S192x256.size inb_S192x256_S192x256_0_0,
      shapeCast S192x256 (addf
        (arg7.view.readCov (accs s hs L k (Nat.lt_of_succ_lt hk)) (Rect.unit ![0, 0] S192x256.size inb_S192x256_S192x256_0_0).toLoadRect)
        (prodAt arg1 harg1 arg2 harg2 arg3 harg3 arg4 harg4 x0 x1 x2 x3 s (k + 1) hs hk)) shapeCasts_S192x256_S192x256⟩
      :: accs s hs L k (Nat.lt_of_succ_lt hk)

/-- What group `s` leaves in the output block, its scratch stores being `L`. -/
def outAt (L : List (View.Piece (Elt F) S192x256 .f32)) : FVec F S1x192x256 .f32 :=
  outOf (View.readAt (Elt F) arg5.view (Rect.unit ![0, 0] S192x128.size inb_S192x128_S192x128_0_0).toLoadRect (harg5.unread x4))
    (arg7.view.readCov L (Rect.unit ![0, 0] S192x256.size inb_S192x256_S192x256_0_0).toLoadRect)

/-- The two stores of a grid point, the second group's first. -/
def pieces : List (View.Piece (Elt F) S1x192x512 .f32) :=
  let L0 := accs arg1 harg1 arg2 harg2 arg3 harg3 arg4 harg4 arg7 x0 x1 x2 x3 0 (by decide) [] 26 (by decide)
  let L1 := accs arg1 harg1 arg2 harg2 arg3 harg3 arg4 harg4 arg7 x0 x1 x2 x3 1 (by decide) L0 26 (by decide)
  [⟨Rect.unit ![0, 0, 256] S1x192x256.size inb_S1x192x512_S1x192x256_0_0_256, outAt arg5 harg5 arg7 x4 L1⟩,
    ⟨Rect.unit ![0, 0, 0] S1x192x256.size inb_S1x192x512_S1x192x256_0_0_0, outAt arg5 harg5 arg7 x4 L0⟩]

/-! ## The total of a group -/

/-- The running total of the products after offset `k`. -/
def total (s : Nat) (hs : s < 2) : (k : Nat) → k < 27 → FVec F S192x256 .f32
  | 0, hk => prodAt arg1 harg1 arg2 harg2 arg3 harg3 arg4 harg4 x0 x1 x2 x3 s 0 hs hk
  | k + 1, hk => addf (total s hs k (Nat.lt_of_succ_lt hk)) (prodAt arg1 harg1 arg2 harg2 arg3 harg3 arg4 harg4 x0 x1 x2 x3 s (k + 1) hs hk)

/-- The scratch array holds the running total, whatever it held before the group. -/
theorem readCov_accs (s : Nat) (hs : s < 2) (L : List (View.Piece (Elt F) S192x256 .f32)) (k : Nat) (hk : k < 27) :
    arg7.view.readCov (accs arg1 harg1 arg2 harg2 arg3 harg3 arg4 harg4 arg7 x0 x1 x2 x3 s hs L k hk)
        (Rect.unit ![0, 0] S192x256.size inb_S192x256_S192x256_0_0).toLoadRect
      = total arg1 harg1 arg2 harg2 arg3 harg3 arg4 harg4 x0 x1 x2 x3 s hs k hk := by
  induction k with
  | zero =>
    unfold accs total
    refine (View.readCov_full (s := S192x256) _ _ _ _ _).trans (shapeCast_self _ _)
  | succ k ih =>
    unfold accs total
    refine (View.readCov_full (s := S192x256) _ _ _ _ _).trans ((shapeCast_self _ _).trans ?_)
    rw [ih (Nat.lt_of_succ_lt hk)]

end Body

end Cert.Proof.Conv
-- ==== Proof.Values.lean ====
/-
  What one grid point of a convolution region stores, read at an index over the ideal numbers.

  A gathered word holds four codes; byte `j` of the word in column `c` is the code the packed weight `4 c + j`
  multiplies. Rows of 128 words carry two voxels: the first 64 words belong to the voxel of the first half of a group
  of 256, the last 64 to the voxel of its second half.
-/
module

public import proofs.«01_k».proof.Proof.Body
public import Idealize.ShloMosaic.Lib.Pointwise
public import Idealize.ShloMosaic.Lib.BitcastPair

@[expose] public section

set_option maxRecDepth 16384

noncomputable section

namespace Cert.Proof.Conv

open Cert.KernelIdeal Cert.KernelIdeal.Gen
open Idealize.ShloMosaic Idealize.ShloMosaic.TcCoe Idealize.ShloMosaic.Tactic

/-- The real number of the code in byte `j` of a word. -/
def codeOf (wd : BitVec 32) (j : Nat) : EReal := Ideal.ofBits .fp8e4m3 (wd.extractLsb' (8 * j) 8)

/-- Thirty-two-bit words read at eight bits: result row `p` is byte `p % 4` of source row `p / 4`. -/
theorem bitcast_32_8_ix2 {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = (x (ix2 a l)).extractLsb' (8 * (p.val % 4)) 8 := by
  apply BitVec.eq_of_getLsbD_eq
  intro q hq
  rw [bitcast_getLsbD x h _ q hq (by decide)]
  have hrow : (⟨2, ![R, n]⟩ : Shape).row (ix2 p l) = p.val := rfl
  have e1 : ((⟨2, ![R, n]⟩ : Shape).row (ix2 p l) * 8 + q) / 32 = a.val := by rw [hrow]; omega
  have e2 : ((⟨2, ![R, n]⟩ : Shape).row (ix2 p l) * 8 + q) % 32 = 8 * (p.val % 4) + q := by rw [hrow]; omega
  rw [e2, BitVec.getLsbD_extractLsb']
  simp only [hq, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- One offset's product at output channel `o` and voxel `v` of the group. The masking of words drops out: where it
    acts the scale is zero. -/
theorem prodOf_apply (xs : Vec Ideal S1x1x256 .f32) (g : Vec Ideal S1x128x128 .i32) (w : Vec Ideal S1x192x256 .fp8e4m3)
    (ws : Vec Ideal S1x192x128 .f32) (o : Fin 192) (v : Fin 256) :
    prodOf xs g w ws (ix2 o v)
      = (∑ m : Fin 256, w (ix3 0 o m) * codeOf (g (ix3 0 ⟨v.val % 128, by omega⟩ ⟨m.val / 4 + 64 * (v.val / 128), by omega⟩)) (m.val % 4))
        * (ws (ix3 0 o ⟨v.val % 128, by omega⟩) * xs (ix3 0 0 v)) := by
  pointwise [prodOf]
  by_cases hx : xs (ix3 0 0 v) = 0
  · rw [hx]; simp only [mul_zero]
  have hs : (if h : v.val < 128 then ws (ix3 0 o ⟨v.val, h⟩) else ws (ix3 0 o ⟨v.val - 128, by omega⟩))
      = ws (ix3 0 o ⟨v.val % 128, by omega⟩) := by
    split
    · congr 2; exact Fin.ext (by simp; omega)
    · congr 2; exact Fin.ext (by simp; omega)
  rw [hs]
  congr 1
  refine Finset.sum_congr rfl fun m _ => ?_
  congr 1
  rw [bitcast_32_8_ix2 _ _ m v ⟨m.val / 4, by omega⟩ rfl]
  unfold codeOf
  congr 2
  pointwise
  rw [if_pos hx]
  split
  · congr 2 <;> exact Fin.ext (by simp; omega)
  · congr 2 <;> exact Fin.ext (by simp; omega)

/-- The total with the bias at an index. -/
theorem outOf_apply (b : Vec Ideal S192x128 .f32) (acc : Vec Ideal S192x256 .f32) (z : Fin 1) (o : Fin 192) (v : Fin 256) :
    outOf b acc (ix3 z o v) = acc (ix2 o v) + b (ix2 o ⟨v.val % 128, by omega⟩) := by
  pointwise [outOf]
  congr 1
  split
  · congr 2; exact Fin.ext (by simp; omega)
  · congr 2; exact Fin.ext (by simp; omega)

/-- What a block of 512 voxels is worth at output channel `o` and voxel `v`. -/
def blockVal (x0 : Vec Ideal S27x256x128 .i32) (x1 : Vec Ideal S1x27x512 .f32) (x2 : Vec Ideal S27x192x256 .fp8e4m3)
    (x3 : Vec Ideal S27x192x128 .f32) (x4 : Vec Ideal S192x128 .f32) (o : Fin 192) (v : Fin 512) : EReal :=
  (∑ k : Fin 27, (∑ m : Fin 256, x2 (ix3 k o m)
      * codeOf (x0 (ix3 k ⟨128 * (v.val / 256) + v.val % 128, by omega⟩ ⟨m.val / 4 + 64 * (v.val / 128 % 2), by omega⟩)) (m.val % 4))
    * (x3 (ix3 k o ⟨v.val % 128, by omega⟩) * x1 (ix3 0 k v)))
  + x4 (ix2 o ⟨v.val % 128, by omega⟩)

section Body

variable (arg1 : Memref sig .tc .vmem S27x256x128 .i32) (harg1 : arg1.IsWhole) (arg2 : Memref sig .tc .vmem S1x27x512 .f32) (harg2 : arg2.IsWhole)
  (arg3 : Memref sig .tc .vmem S27x192x256 .fp8e4m3) (harg3 : arg3.IsWhole) (arg4 : Memref sig .tc .vmem S27x192x128 .f32) (harg4 : arg4.IsWhole)
  (arg5 : Memref sig .tc .vmem S192x128 .f32) (harg5 : arg5.IsWhole) (arg7 : Memref sig .tc .vmem S192x256 .f32)
  (x0 : Vec Ideal S27x256x128 .i32) (x1 : Vec Ideal S1x27x512 .f32) (x2 : Vec Ideal S27x192x256 .fp8e4m3) (x3 : Vec Ideal S27x192x128 .f32)
  (x4 : Vec Ideal S192x128 .f32)

/-- One offset's product, off the whole blocks. -/
theorem prodAt_apply (s k : Nat) (hs : s < 2) (hk : k < 27) (o : Fin 192) (v : Fin 256) :
    prodAt arg1 harg1 arg2 harg2 arg3 harg3 arg4 harg4 x0 x1 x2 x3 s k hs hk (ix2 o v)
      = (∑ m : Fin 256, x2 (ix3 ⟨k, hk⟩ o m)
          * codeOf (x0 (ix3 ⟨k, hk⟩ ⟨128 * s + v.val % 128, by omega⟩ ⟨m.val / 4 + 64 * (v.val / 128), by omega⟩)) (m.val % 4))
        * (x3 (ix3 ⟨k, hk⟩ o ⟨v.val % 128, by omega⟩) * x1 (ix3 0 ⟨k, hk⟩ ⟨256 * s + v.val, by omega⟩)) := by
  have e0 : ∀ (a : Fin 128) (b : Fin 128), (Rect.unit (s := S27x256x128) ![k, 128 * s, 0] S1x128x128.size (inb_g hk hs)).toLoadRect.idx (ix3 (0 : Fin 1) a b)
      = ix3 (⟨k, hk⟩ : Fin 27) (⟨128 * s + a.val, by omega⟩ : Fin 256) b := fun a b => by
    funext c
    match c with
    | ⟨0, _⟩ => exact Fin.ext (by show k + 1 * 0 = k; omega)
    | ⟨1, _⟩ => exact Fin.ext (by show 128 * s + 1 * a.val = 128 * s + a.val; omega)
    | ⟨2, _⟩ => exact Fin.ext (by show 0 + 1 * b.val = b.val; omega)
  have e1 : ∀ (a : Fin 256), (Rect.unit (s := S1x27x512) ![0, k, 256 * s] S1x1x256.size (inb_xs hk hs)).toLoadRect.idx (ix3 (0 : Fin 1) (0 : Fin 1) a)
      = ix3 (0 : Fin 1) (⟨k, hk⟩ : Fin 27) (⟨256 * s + a.val, by omega⟩ : Fin 512) := fun a => by
    funext c
    match c with
    | ⟨0, _⟩ => exact Fin.ext (by show 0 + 1 * 0 = 0; omega)
    | ⟨1, _⟩ => exact Fin.ext (by show k + 1 * 0 = k; omega)
    | ⟨2, _⟩ => exact Fin.ext (by show 256 * s + 1 * a.val = 256 * s + a.val; omega)
  have e2 : ∀ (a : Fin 192) (b : Fin 256), (Rect.unit (s := S27x192x256) ![k, 0, 0] S1x192x256.size (inb_w hk)).toLoadRect.idx (ix3 (0 : Fin 1) a b)
      = ix3 (⟨k, hk⟩ : Fin 27) a b := fun a b => by
    funext c
    match c with
    | ⟨0, _⟩ => exact Fin.ext (by show k + 1 * 0 = k; omega)
    | ⟨1, _⟩ => exact Fin.ext (by show 0 + 1 * a.val = a.val; omega)
    | ⟨2, _⟩ => exact Fin.ext (by show 0 + 1 * b.val = b.val; omega)
  have e3 : ∀ (a : Fin 192) (b : Fin 128), (Rect.unit (s := S27x192x128) ![k, 0, 0] S1x192x128.size (inb_ws hk)).toLoadRect.idx (ix3 (0 : Fin 1) a b)
      = ix3 (⟨k, hk⟩ : Fin 27) a b := fun a b => by
    funext c
    match c with
    | ⟨0, _⟩ => exact Fin.ext (by show k + 1 * 0 = k; omega)
    | ⟨1, _⟩ => exact Fin.ext (by show 0 + 1 * a.val = a.val; omega)
    | ⟨2, _⟩ => exact Fin.ext (by show 0 + 1 * b.val = b.val; omega)
  unfold prodAt
  rw [prodOf_apply, Memref.IsWhole.readAt_unread, Memref.IsWhole.readAt_unread, e3, e1]
  congr 1
  refine Finset.sum_congr rfl fun m _ => ?_
  rw [Memref.IsWhole.readAt_unread, Memref.IsWhole.readAt_unread, e2, e0]

/-- The running total at an index is a sum over the offsets. -/
theorem total_apply (s : Nat) (hs : s < 2) (o : Fin 192) (v : Fin 256) : ∀ (k : Nat) (hk : k < 27),
    total arg1 harg1 arg2 harg2 arg3 harg3 arg4 harg4 x0 x1 x2 x3 s hs k hk (ix2 o v)
      = ∑ i : Fin (k + 1), prodAt arg1 harg1 arg2 harg2 arg3 harg3 arg4 harg4 x0 x1 x2 x3 s i.val hs (by omega) (ix2 o v)
  | 0, hk => by
    unfold total
    simp
  | k + 1, hk => by
    unfold total
    rw [Fin.sum_univ_castSucc]
    have := total_apply s hs o v k (by omega)
    pointwise
    rw [this]
    rfl

/-- The two groups' outputs at an index. -/
theorem outAt_apply (s : Nat) (hs : s < 2) (L : List (View.Piece (Elt Ideal) S192x256 .f32)) (z : Fin 1) (o : Fin 192) (v : Fin 256) :
    outAt arg5 harg5 arg7 x4 (accs arg1 harg1 arg2 harg2 arg3 harg3 arg4 harg4 arg7 x0 x1 x2 x3 s hs L 26 (by decide)) (ix3 z o v)
      = blockVal x0 x1 x2 x3 x4 o ⟨256 * s + v.val, by omega⟩ := by
  have e4 : ∀ (a : Fin 192) (b : Fin 128), (Rect.unit (s := S192x128) ![0, 0] S192x128.size inb_S192x128_S192x128_0_0).toLoadRect.idx (ix2 a b) = ix2 a b := fun a b => by
    funext c
    match c with
    | ⟨0, _⟩ => exact Fin.ext (by show 0 + 1 * a.val = a.val; omega)
    | ⟨1, _⟩ => exact Fin.ext (by show 0 + 1 * b.val = b.val; omega)
  unfold outAt
  rw [outOf_apply, readCov_accs, total_apply, Memref.IsWhole.readAt_unread, e4]
  unfold blockVal
  have a1 : (256 * s + v.val) / 256 = s := by omega
  have a2 : (256 * s + v.val) % 128 = v.val % 128 := by omega
  have a3 : (256 * s + v.val) / 128 % 2 = v.val / 128 := by omega
  simp only [prodAt_apply, a1, a2, a3]

/-- A grid point's stores leave `blockVal` at every index of the block. -/
theorem pieces_canon (z : Fin 1) (o : Fin 192) (v : Fin 512) :
    View.canon (pieces arg1 harg1 arg2 harg2 arg3 harg3 arg4 harg4 arg5 harg5 arg7 x0 x1 x2 x3 x4) (ix3 z o v) = blockVal x0 x1 x2 x3 x4 o v := by
  have e : ∀ (s : Nat) (hs : s < 2) (inb : ∀ a, (![0, 0, 256 * s] : Fin 3 → Nat) a + S1x192x256.size a ≤ S1x192x512.size a) (a : Fin 256),
      (Rect.unit (s := S1x192x512) ![0, 0, 256 * s] S1x192x256.size inb).emb (ix3 z o a) = ix3 z o (⟨256 * s + a.val, by omega⟩ : Fin 512) := fun s hs inb a => by
    funext c
    match c with
    | ⟨0, _⟩ => exact Fin.ext (by show 0 + 1 * z.val = z.val; omega)
    | ⟨1, _⟩ => exact Fin.ext (by show 0 + 1 * o.val = o.val; omega)
    | ⟨2, _⟩ => exact Fin.ext (by show 256 * s + 1 * a.val = 256 * s + a.val; omega)
  unfold pieces
  by_cases hv : v.val < 256
  · rw [View.canon_cons_of_not_mem]
    · have ev := e 0 (by decide) inb_S1x192x512_S1x192x256_0_0_0 ⟨v.val, hv⟩
      have : (⟨256 * 0 + v.val, by omega⟩ : Fin 512) = v := Fin.ext (by simp)
      rw [this] at ev
      rw [← ev]
      refine (View.canon_cons_emb _ _ _ _).trans ?_
      rw [outAt_apply]
      exact congrArg _ this
    · intro hm
      have h2 := (Rect.mem_set_unit (inb := inb_S1x192x512_S1x192x256_0_0_256).mp hm (2 : Fin 3)).1
      have h3 : 256 ≤ v.val := h2
      omega
  · have ev := e 1 (by decide) inb_S1x192x512_S1x192x256_0_0_256 ⟨v.val - 256, by omega⟩
    have : (⟨256 * 1 + (v.val - 256), by omega⟩ : Fin 512) = v := Fin.ext (by simp; omega)
    rw [this] at ev
    rw [← ev]
    refine (View.canon_cons_emb _ _ _ _).trans ?_
    rw [outAt_apply]
    exact congrArg _ this

end Body

end Cert.Proof.Conv
-- ==== Proof.Regions.lean ====
/-
  The stores of a grid point of each of the six regions are the pieces of its input blocks: the regions have one body.
-/
module

public import proofs.«01_k».proof.Proof.Values

@[expose] public section

set_option maxRecDepth 16384

noncomputable section

namespace Cert.Proof.Conv

open Cert.KernelIdeal Cert.KernelIdeal.Gen
open Idealize.ShloMosaic Idealize.ShloMosaic.TcCoe Idealize.ShloMosaic.Tactic

variable {F : FTy → Type} [FloatOps F]

section Pieces

variable (c : Dev nD) (a1 : Memref sig .tc .vmem S27x256x128 .i32) (h1 : a1.IsWhole) (a2 : Memref sig .tc .vmem S1x27x512 .f32) (h2 : a2.IsWhole)
  (a3 : Memref sig .tc .vmem S27x192x256 .fp8e4m3) (h3 : a3.IsWhole) (a4 : Memref sig .tc .vmem S27x192x128 .f32) (h4 : a4.IsWhole)
  (a5 : Memref sig .tc .vmem S192x128 .f32) (h5 : a5.IsWhole) (a6 : Memref sig .tc .vmem S1x192x512 .f32) (h6 : a6.IsWhole)
  (a7 : Memref sig .tc .vmem S192x256 .f32) (h7 : a7.IsWhole)
  (x0 : Vec F S27x256x128 .i32) (x1 : Vec F S1x27x512 .f32) (x2 : Vec F S27x192x256 .fp8e4m3) (x3 : Vec F S27x192x128 .f32) (x4 : Vec F S192x128 .f32)

theorem pieces0 (i : grid0.Coords) : (kernelRun0_A c i a1 h1 a2 h2 a3 h3 a4 h4 a5 h5 a6 h6 a7 h7 x0 x1 x2 x3 x4).1
    = pieces a1 h1 a2 h2 a3 h3 a4 h4 a5 h5 a7 x0 x1 x2 x3 x4 := by sl_kernel_rfl

theorem pieces1 (i : grid1.Coords) : (kernelRun1_A c i a1 h1 a2 h2 a3 h3 a4 h4 a5 h5 a6 h6 a7 h7 x0 x1 x2 x3 x4).1
    = pieces a1 h1 a2 h2 a3 h3 a4 h4 a5 h5 a7 x0 x1 x2 x3 x4 := by sl_kernel_rfl

theorem pieces2 (i : grid2.Coords) : (kernelRun2_A c i a1 h1 a2 h2 a3 h3 a4 h4 a5 h5 a6 h6 a7 h7 x0 x1 x2 x3 x4).1
    = pieces a1 h1 a2 h2 a3 h3 a4 h4 a5 h5 a7 x0 x1 x2 x3 x4 := by sl_kernel_rfl

theorem pieces3 (i : grid3.Coords) : (kernelRun3_A c i a1 h1 a2 h2 a3 h3 a4 h4 a5 h5 a6 h6 a7 h7 x0 x1 x2 x3 x4).1
    = pieces a1 h1 a2 h2 a3 h3 a4 h4 a5 h5 a7 x0 x1 x2 x3 x4 := by sl_kernel_rfl

theorem pieces4 (i : grid4.Coords) : (kernelRun4_A c i a1 h1 a2 h2 a3 h3 a4 h4 a5 h5 a6 h6 a7 h7 x0 x1 x2 x3 x4).1
    = pieces a1 h1 a2 h2 a3 h3 a4 h4 a5 h5 a7 x0 x1 x2 x3 x4 := by sl_kernel_rfl

theorem pieces5 (i : grid5.Coords) : (kernelRun5_A c i a1 h1 a2 h2 a3 h3 a4 h4 a5 h5 a6 h6 a7 h7 x0 x1 x2 x3 x4).1
    = pieces a1 h1 a2 h2 a3 h3 a4 h4 a5 h5 a7 x0 x1 x2 x3 x4 := by sl_kernel_rfl

end Pieces

end Cert.Proof.Conv
-- ==== Proof.Arrays.lean ====
/-
  What the result array holds after each region: the scene of the region's own gathered codes gets its values, the other
  scenes keep what they held.
-/
module

public import proofs.«01_k».proof.Proof.Regions
public import Idealize.ShloMosaic.Lib.Pipeline.ValueKit.Partial

@[expose] public section

set_option maxRecDepth 16384

noncomputable section

namespace Cert.Proof.Conv

open Cert.KernelIdeal Cert.KernelIdeal.Gen
open Idealize.ShloMosaic Idealize.ShloMosaic.TcCoe Idealize.ShloMosaic.Tactic

/-- The value of scene `b` at output channel `o` and voxel `n`, of the gathered words, the gathered scales, the packed
    weights and their scales and the bias as the regions read them. -/
def sceneVal (A0 : Vec Ideal S27x32768x128 .i32) (A1 : Vec Ideal S6x27x65536 .f32) (A2 : Vec Ideal S27x192x256 .fp8e4m3)
    (A3 : Vec Ideal S27x192x128 .f32) (A4 : Vec Ideal S192x128 .f32) (b : Fin 6) (o : Fin 192) (n : Fin 65536) : EReal :=
  (∑ k : Fin 27, (∑ m : Fin 256, A2 (ix3 k o m)
      * codeOf (A0 (ix3 k ⟨128 * (n.val / 256) + n.val % 128, by omega⟩ ⟨m.val / 4 + 64 * (n.val / 128 % 2), by omega⟩)) (m.val % 4))
    * (A3 (ix3 k o ⟨n.val % 128, by omega⟩) * A1 (ix3 b k n)))
  + A4 (ix2 o ⟨n.val % 128, by omega⟩)

/-- A block of voxels holds the scene's values when the input blocks are the arrays' at that block. -/
theorem blockVal_eq (A0 : Vec Ideal S27x32768x128 .i32) (A1 : Vec Ideal S6x27x65536 .f32) (A2 : Vec Ideal S27x192x256 .fp8e4m3)
    (A3 : Vec Ideal S27x192x128 .f32) (A4 : Vec Ideal S192x128 .f32)
    (x0 : Vec Ideal S27x256x128 .i32) (x1 : Vec Ideal S1x27x512 .f32) (x2 : Vec Ideal S27x192x256 .fp8e4m3)
    (x3 : Vec Ideal S27x192x128 .f32) (x4 : Vec Ideal S192x128 .f32) (b : Fin 6) (t : Nat) (ht : t < 128)
    (h0 : ∀ (k : Fin 27) (r : Fin 256) (l : Fin 128), x0 (ix3 k r l) = A0 (ix3 k ⟨256 * t + r.val, by omega⟩ l))
    (h1 : ∀ (k : Fin 27) (v : Fin 512), x1 (ix3 0 k v) = A1 (ix3 b k ⟨512 * t + v.val, by omega⟩))
    (h2 : ∀ (k : Fin 27) (o : Fin 192) (m : Fin 256), x2 (ix3 k o m) = A2 (ix3 k o m))
    (h3 : ∀ (k : Fin 27) (o : Fin 192) (l : Fin 128), x3 (ix3 k o l) = A3 (ix3 k o l))
    (h4 : ∀ (o : Fin 192) (l : Fin 128), x4 (ix2 o l) = A4 (ix2 o l)) (o : Fin 192) (v : Fin 512) :
    blockVal x0 x1 x2 x3 x4 o v = sceneVal A0 A1 A2 A3 A4 b o ⟨512 * t + v.val, by omega⟩ := by
  unfold blockVal sceneVal
  have a1 : 256 * t + (128 * (v.val / 256) + v.val % 128) = 128 * ((512 * t + v.val) / 256) + (512 * t + v.val) % 128 := by omega
  have a2 : v.val % 128 = (512 * t + v.val) % 128 := by omega
  have a3 : v.val / 128 % 2 = (512 * t + v.val) / 128 % 2 := by omega
  simp only [h0, h1, h2, h3, h4, a1, a3]
  simp only [a2]

variable (V : (c : Dev nD) → (b : Ref sig .tc) → Buf (Elt Ideal) ((c : Thread nD τ).loc b)) (c : Dev nD)

theorem region0 (b : Fin 6) (o : Fin 192) (n : Fin 65536) :
    (dat0 V c).arrAt 5 cfg0.N (ix3 b o n : S6x192x65536.Idx)
      = if b.val = 0 then sceneVal (V c main_arg0) (V c main_arg6) (V c main_v2) (V c main_v4) (V c main_v6) 0 o n
        else V c main_v7 (ix3 b o n : S6x192x65536.Idx) := by
  refine (dat0 V c).arrAt_apply_of_coversWhere (P := fun i : S6x192x65536.Idx => (i 0).val = 0) 5
    (fun i : S6x192x65536.Idx => sceneVal (V c main_arg0) (V c main_arg6) (V c main_v2) (V c main_v4) (V c main_v6) 0 (i 1) (i 2))
    (fun β => β (0 : Fin 3) = 0) (by decide +kernel) (fun t hf y => ?_) (fun j => ?_) (ix3 b o n : S6x192x65536.Idx)
  · have e0 : ∀ t : Fin cfg0.N, win0_0.index t = ![0, t.val, 0] := (by decide +kernel : ∀ t : Fin grid0.N, _)
    have e1 : ∀ t : Fin cfg0.N, win0_1.index t = ![0, 0, t.val] := (by decide +kernel : ∀ t : Fin grid0.N, _)
    have e2 : ∀ t : Fin cfg0.N, win0_2.index t = ![0, 0, 0] := (by decide +kernel : ∀ t : Fin grid0.N, _)
    have e3 : ∀ t : Fin cfg0.N, win0_3.index t = ![0, 0, 0] := (by decide +kernel : ∀ t : Fin grid0.N, _)
    have e4 : ∀ t : Fin cfg0.N, win0_4.index t = ![0, 0] := (by decide +kernel : ∀ t : Fin grid0.N, _)
    have e5 : ∀ t : Fin cfg0.N, win0_5.index t = ![0, 0, t.val] := (by decide +kernel : ∀ t : Fin grid0.N, _)
    blk_simp
    rw [after0_5]
    obtain ⟨z, o', v, rfl⟩ : ∃ (z : Fin 1) (o' : Fin 192) (v : Fin 512), y = ix3 z o' v := ⟨y 0, y 1, y 2, (ix3_eta y).symm⟩
    have ht : t.val < 128 := t.isLt
    unfold outsAt0 out0_A_5
    rw [View.read_writes_junk_apply_eq_canon, pieces0]
    refine (pieces_canon _ _ _ _ _ _ _ _ _ _ _ _ _ _ _ _ z o' v).trans ?_
    rw [blockVal_eq (V c main_arg0) (V c main_arg6) (V c main_v2) (V c main_v4) (V c main_v6) _ _ _ _ _ 0 t.val ht]
    · congr 1
      · refine Fin.ext ?_; blk_simp [e5]
      · refine Fin.ext ?_; blk_simp [e5]; simp; omega
    · intro k r l; blk_simp [iblk0]; refine congrArg _ ?_; blk_ext [e0]
    · intro k v; blk_simp [iblk0]; refine congrArg _ ?_; blk_ext [e1]
    · intro k o m; blk_simp [iblk0]; refine congrArg _ ?_; blk_ext [e2]
    · intro k o l; blk_simp [iblk0]; refine congrArg _ ?_; blk_ext [e3]
    · intro o l; blk_simp [iblk0]; refine congrArg _ ?_; blk_ext [e4]
  · blk_simp [Pipeline.Window.cell_apply]
    omega

theorem region1 (b : Fin 6) (o : Fin 192) (n : Fin 65536) :
    (dat1 V c).arrAt 5 cfg1.N (ix3 b o n : S6x192x65536.Idx)
      = if b.val = 1 then sceneVal (V c main_arg1) (V c main_arg6) (V c main_v2) (V c main_v4) (V c main_v6) 1 o n
        else V c main_v8 (ix3 b o n : S6x192x65536.Idx) := by
  refine (dat1 V c).arrAt_apply_of_coversWhere (P := fun i : S6x192x65536.Idx => (i 0).val = 1) 5
    (fun i : S6x192x65536.Idx => sceneVal (V c main_arg1) (V c main_arg6) (V c main_v2) (V c main_v4) (V c main_v6) 1 (i 1) (i 2))
    (fun β => β (0 : Fin 3) = 1) (by decide +kernel) (fun t hf y => ?_) (fun j => ?_) (ix3 b o n : S6x192x65536.Idx)
  · have e0 : ∀ t : Fin cfg1.N, win1_0.index t = ![0, t.val, 0] := (by decide +kernel : ∀ t : Fin grid1.N, _)
    have e1 : ∀ t : Fin cfg1.N, win1_1.index t = ![1, 0, t.val] := (by decide +kernel : ∀ t : Fin grid1.N, _)
    have e2 : ∀ t : Fin cfg1.N, win1_2.index t = ![0, 0, 0] := (by decide +kernel : ∀ t : Fin grid1.N, _)
    have e3 : ∀ t : Fin cfg1.N, win1_3.index t = ![0, 0, 0] := (by decide +kernel : ∀ t : Fin grid1.N, _)
    have e4 : ∀ t : Fin cfg1.N, win1_4.index t = ![0, 0] := (by decide +kernel : ∀ t : Fin grid1.N, _)
    have e5 : ∀ t : Fin cfg1.N, win1_5.index t = ![1, 0, t.val] := (by decide +kernel : ∀ t : Fin grid1.N, _)
    blk_simp
    rw [after1_5]
    obtain ⟨z, o', v, rfl⟩ : ∃ (z : Fin 1) (o' : Fin 192) (v : Fin 512), y = ix3 z o' v := ⟨y 0, y 1, y 2, (ix3_eta y).symm⟩
    have ht : t.val < 128 := t.isLt
    unfold outsAt1 out1_A_5
    rw [View.read_writes_junk_apply_eq_canon, pieces1]
    refine (pieces_canon _ _ _ _ _ _ _ _ _ _ _ _ _ _ _ _ z o' v).trans ?_
    rw [blockVal_eq (V c main_arg1) (V c main_arg6) (V c main_v2) (V c main_v4) (V c main_v6) _ _ _ _ _ 1 t.val ht]
    · congr 1
      · refine Fin.ext ?_; blk_simp [e5]
      · refine Fin.ext ?_; blk_simp [e5]; simp; omega
    · intro k r l; blk_simp [iblk1]; refine congrArg _ ?_; blk_ext [e0]
    · intro k v; blk_simp [iblk1]; refine congrArg _ ?_; blk_ext [e1]
    · intro k o m; blk_simp [iblk1]; refine congrArg _ ?_; blk_ext [e2]
    · intro k o l; blk_simp [iblk1]; refine congrArg _ ?_; blk_ext [e3]
    · intro o l; blk_simp [iblk1]; refine congrArg _ ?_; blk_ext [e4]
  · blk_simp [Pipeline.Window.cell_apply]
    omega

theorem region2 (b : Fin 6) (o : Fin 192) (n : Fin 65536) :
    (dat2 V c).arrAt 5 cfg2.N (ix3 b o n : S6x192x65536.Idx)
      = if b.val = 2 then sceneVal (V c main_arg2) (V c main_arg6) (V c main_v2) (V c main_v4) (V c main_v6) 2 o n
        else V c main_v9 (ix3 b o n : S6x192x65536.Idx) := by
  refine (dat2 V c).arrAt_apply_of_coversWhere (P := fun i : S6x192x65536.Idx => (i 0).val = 2) 5
    (fun i : S6x192x65536.Idx => sceneVal (V c main_arg2) (V c main_arg6) (V c main_v2) (V c main_v4) (V c main_v6) 2 (i 1) (i 2))
    (fun β => β (0 : Fin 3) = 2) (by decide +kernel) (fun t hf y => ?_) (fun j => ?_) (ix3 b o n : S6x192x65536.Idx)
  · have e0 : ∀ t : Fin cfg2.N, win2_0.index t = ![0, t.val, 0] := (by decide +kernel : ∀ t : Fin grid2.N, _)
    have e1 : ∀ t : Fin cfg2.N, win2_1.index t = ![2, 0, t.val] := (by decide +kernel : ∀ t : Fin grid2.N, _)
    have e2 : ∀ t : Fin cfg2.N, win2_2.index t = ![0, 0, 0] := (by decide +kernel : ∀ t : Fin grid2.N, _)
    have e3 : ∀ t : Fin cfg2.N, win2_3.index t = ![0, 0, 0] := (by decide +kernel : ∀ t : Fin grid2.N, _)
    have e4 : ∀ t : Fin cfg2.N, win2_4.index t = ![0, 0] := (by decide +kernel : ∀ t : Fin grid2.N, _)
    have e5 : ∀ t : Fin cfg2.N, win2_5.index t = ![2, 0, t.val] := (by decide +kernel : ∀ t : Fin grid2.N, _)
    blk_simp
    rw [after2_5]
    obtain ⟨z, o', v, rfl⟩ : ∃ (z : Fin 1) (o' : Fin 192) (v : Fin 512), y = ix3 z o' v := ⟨y 0, y 1, y 2, (ix3_eta y).symm⟩
    have ht : t.val < 128 := t.isLt
    unfold outsAt2 out2_A_5
    rw [View.read_writes_junk_apply_eq_canon, pieces2]
    refine (pieces_canon _ _ _ _ _ _ _ _ _ _ _ _ _ _ _ _ z o' v).trans ?_
    rw [blockVal_eq (V c main_arg2) (V c main_arg6) (V c main_v2) (V c main_v4) (V c main_v6) _ _ _ _ _ 2 t.val ht]
    · congr 1
      · refine Fin.ext ?_; blk_simp [e5]
      · refine Fin.ext ?_; blk_simp [e5]; simp; omega
    · intro k r l; blk_simp [iblk2]; refine congrArg _ ?_; blk_ext [e0]
    · intro k v; blk_simp [iblk2]; refine congrArg _ ?_; blk_ext [e1]
    · intro k o m; blk_simp [iblk2]; refine congrArg _ ?_; blk_ext [e2]
    · intro k o l; blk_simp [iblk2]; refine congrArg _ ?_; blk_ext [e3]
    · intro o l; blk_simp [iblk2]; refine congrArg _ ?_; blk_ext [e4]
  · blk_simp [Pipeline.Window.cell_apply]
    omega

theorem region3 (b : Fin 6) (o : Fin 192) (n : Fin 65536) :
    (dat3 V c).arrAt 5 cfg3.N (ix3 b o n : S6x192x65536.Idx)
      = if b.val = 3 then sceneVal (V c main_arg3) (V c main_arg6) (V c main_v2) (V c main_v4) (V c main_v6) 3 o n
        else V c main_v10 (ix3 b o n : S6x192x65536.Idx) := by
  refine (dat3 V c).arrAt_apply_of_coversWhere (P := fun i : S6x192x65536.Idx => (i 0).val = 3) 5
    (fun i : S6x192x65536.Idx => sceneVal (V c main_arg3) (V c main_arg6) (V c main_v2) (V c main_v4) (V c main_v6) 3 (i 1) (i 2))
    (fun β => β (0 : Fin 3) = 3) (by decide +kernel) (fun t hf y => ?_) (fun j => ?_) (ix3 b o n : S6x192x65536.Idx)
  · have e0 : ∀ t : Fin cfg3.N, win3_0.index t = ![0, t.val, 0] := (by decide +kernel : ∀ t : Fin grid3.N, _)
    have e1 : ∀ t : Fin cfg3.N, win3_1.index t = ![3, 0, t.val] := (by decide +kernel : ∀ t : Fin grid3.N, _)
    have e2 : ∀ t : Fin cfg3.N, win3_2.index t = ![0, 0, 0] := (by decide +kernel : ∀ t : Fin grid3.N, _)
    have e3 : ∀ t : Fin cfg3.N, win3_3.index t = ![0, 0, 0] := (by decide +kernel : ∀ t : Fin grid3.N, _)
    have e4 : ∀ t : Fin cfg3.N, win3_4.index t = ![0, 0] := (by decide +kernel : ∀ t : Fin grid3.N, _)
    have e5 : ∀ t : Fin cfg3.N, win3_5.index t = ![3, 0, t.val] := (by decide +kernel : ∀ t : Fin grid3.N, _)
    blk_simp
    rw [after3_5]
    obtain ⟨z, o', v, rfl⟩ : ∃ (z : Fin 1) (o' : Fin 192) (v : Fin 512), y = ix3 z o' v := ⟨y 0, y 1, y 2, (ix3_eta y).symm⟩
    have ht : t.val < 128 := t.isLt
    unfold outsAt3 out3_A_5
    rw [View.read_writes_junk_apply_eq_canon, pieces3]
    refine (pieces_canon _ _ _ _ _ _ _ _ _ _ _ _ _ _ _ _ z o' v).trans ?_
    rw [blockVal_eq (V c main_arg3) (V c main_arg6) (V c main_v2) (V c main_v4) (V c main_v6) _ _ _ _ _ 3 t.val ht]
    · congr 1
      · refine Fin.ext ?_; blk_simp [e5]
      · refine Fin.ext ?_; blk_simp [e5]; simp; omega
    · intro k r l; blk_simp [iblk3]; refine congrArg _ ?_; blk_ext [e0]
    · intro k v; blk_simp [iblk3]; refine congrArg _ ?_; blk_ext [e1]
    · intro k o m; blk_simp [iblk3]; refine congrArg _ ?_; blk_ext [e2]
    · intro k o l; blk_simp [iblk3]; refine congrArg _ ?_; blk_ext [e3]
    · intro o l; blk_simp [iblk3]; refine congrArg _ ?_; blk_ext [e4]
  · blk_simp [Pipeline.Window.cell_apply]
    omega

theorem region4 (b : Fin 6) (o : Fin 192) (n : Fin 65536) :
    (dat4 V c).arrAt 5 cfg4.N (ix3 b o n : S6x192x65536.Idx)
      = if b.val = 4 then sceneVal (V c main_arg4) (V c main_arg6) (V c main_v2) (V c main_v4) (V c main_v6) 4 o n
        else V c main_v11 (ix3 b o n : S6x192x65536.Idx) := by
  refine (dat4 V c).arrAt_apply_of_coversWhere (P := fun i : S6x192x65536.Idx => (i 0).val = 4) 5
    (fun i : S6x192x65536.Idx => sceneVal (V c main_arg4) (V c main_arg6) (V c main_v2) (V c main_v4) (V c main_v6) 4 (i 1) (i 2))
    (fun β => β (0 : Fin 3) = 4) (by decide +kernel) (fun t hf y => ?_) (fun j => ?_) (ix3 b o n : S6x192x65536.Idx)
  · have e0 : ∀ t : Fin cfg4.N, win4_0.index t = ![0, t.val, 0] := (by decide +kernel : ∀ t : Fin grid4.N, _)
    have e1 : ∀ t : Fin cfg4.N, win4_1.index t = ![4, 0, t.val] := (by decide +kernel : ∀ t : Fin grid4.N, _)
    have e2 : ∀ t : Fin cfg4.N, win4_2.index t = ![0, 0, 0] := (by decide +kernel : ∀ t : Fin grid4.N, _)
    have e3 : ∀ t : Fin cfg4.N, win4_3.index t = ![0, 0, 0] := (by decide +kernel : ∀ t : Fin grid4.N, _)
    have e4 : ∀ t : Fin cfg4.N, win4_4.index t = ![0, 0] := (by decide +kernel : ∀ t : Fin grid4.N, _)
    have e5 : ∀ t : Fin cfg4.N, win4_5.index t = ![4, 0, t.val] := (by decide +kernel : ∀ t : Fin grid4.N, _)
    blk_simp
    rw [after4_5]
    obtain ⟨z, o', v, rfl⟩ : ∃ (z : Fin 1) (o' : Fin 192) (v : Fin 512), y = ix3 z o' v := ⟨y 0, y 1, y 2, (ix3_eta y).symm⟩
    have ht : t.val < 128 := t.isLt
    unfold outsAt4 out4_A_5
    rw [View.read_writes_junk_apply_eq_canon, pieces4]
    refine (pieces_canon _ _ _ _ _ _ _ _ _ _ _ _ _ _ _ _ z o' v).trans ?_
    rw [blockVal_eq (V c main_arg4) (V c main_arg6) (V c main_v2) (V c main_v4) (V c main_v6) _ _ _ _ _ 4 t.val ht]
    · congr 1
      · refine Fin.ext ?_; blk_simp [e5]
      · refine Fin.ext ?_; blk_simp [e5]; simp; omega
    · intro k r l; blk_simp [iblk4]; refine congrArg _ ?_; blk_ext [e0]
    · intro k v; blk_simp [iblk4]; refine congrArg _ ?_; blk_ext [e1]
    · intro k o m; blk_simp [iblk4]; refine congrArg _ ?_; blk_ext [e2]
    · intro k o l; blk_simp [iblk4]; refine congrArg _ ?_; blk_ext [e3]
    · intro o l; blk_simp [iblk4]; refine congrArg _ ?_; blk_ext [e4]
  · blk_simp [Pipeline.Window.cell_apply]
    omega

theorem region5 (b : Fin 6) (o : Fin 192) (n : Fin 65536) :
    (dat5 V c).arrAt 5 cfg5.N (ix3 b o n : S6x192x65536.Idx)
      = if b.val = 5 then sceneVal (V c main_arg5) (V c main_arg6) (V c main_v2) (V c main_v4) (V c main_v6) 5 o n
        else V c main_v12 (ix3 b o n : S6x192x65536.Idx) := by
  refine (dat5 V c).arrAt_apply_of_coversWhere (P := fun i : S6x192x65536.Idx => (i 0).val = 5) 5
    (fun i : S6x192x65536.Idx => sceneVal (V c main_arg5) (V c main_arg6) (V c main_v2) (V c main_v4) (V c main_v6) 5 (i 1) (i 2))
    (fun β => β (0 : Fin 3) = 5) (by decide +kernel) (fun t hf y => ?_) (fun j => ?_) (ix3 b o n : S6x192x65536.Idx)
  · have e0 : ∀ t : Fin cfg5.N, win5_0.index t = ![0, t.val, 0] := (by decide +kernel : ∀ t : Fin grid5.N, _)
    have e1 : ∀ t : Fin cfg5.N, win5_1.index t = ![5, 0, t.val] := (by decide +kernel : ∀ t : Fin grid5.N, _)
    have e2 : ∀ t : Fin cfg5.N, win5_2.index t = ![0, 0, 0] := (by decide +kernel : ∀ t : Fin grid5.N, _)
    have e3 : ∀ t : Fin cfg5.N, win5_3.index t = ![0, 0, 0] := (by decide +kernel : ∀ t : Fin grid5.N, _)
    have e4 : ∀ t : Fin cfg5.N, win5_4.index t = ![0, 0] := (by decide +kernel : ∀ t : Fin grid5.N, _)
    have e5 : ∀ t : Fin cfg5.N, win5_5.index t = ![5, 0, t.val] := (by decide +kernel : ∀ t : Fin grid5.N, _)
    blk_simp
    rw [after5_5]
    obtain ⟨z, o', v, rfl⟩ : ∃ (z : Fin 1) (o' : Fin 192) (v : Fin 512), y = ix3 z o' v := ⟨y 0, y 1, y 2, (ix3_eta y).symm⟩
    have ht : t.val < 128 := t.isLt
    unfold outsAt5 out5_A_5
    rw [View.read_writes_junk_apply_eq_canon, pieces5]
    refine (pieces_canon _ _ _ _ _ _ _ _ _ _ _ _ _ _ _ _ z o' v).trans ?_
    rw [blockVal_eq (V c main_arg5) (V c main_arg6) (V c main_v2) (V c main_v4) (V c main_v6) _ _ _ _ _ 5 t.val ht]
    · congr 1
      · refine Fin.ext ?_; blk_simp [e5]
      · refine Fin.ext ?_; blk_simp [e5]; simp; omega
    · intro k r l; blk_simp [iblk5]; refine congrArg _ ?_; blk_ext [e0]
    · intro k v; blk_simp [iblk5]; refine congrArg _ ?_; blk_ext [e1]
    · intro k o m; blk_simp [iblk5]; refine congrArg _ ?_; blk_ext [e2]
    · intro k o l; blk_simp [iblk5]; refine congrArg _ ?_; blk_ext [e3]
    · intro o l; blk_simp [iblk5]; refine congrArg _ ?_; blk_ext [e4]
  · blk_simp [Pipeline.Window.cell_apply]
    omega

end Cert.Proof.Conv
-- ==== Proof.Chain.lean ====
/-
  The kernel's result: the six regions one after the other, the copies between them and the transpose at the end.
-/
module

public import proofs.«01_k».proof.Proof.Arrays
public import Idealize.ShloMosaic.Lib.Claim

@[expose] public section

set_option maxRecDepth 16384

noncomputable section

namespace Cert.Proof.Conv

open Cert.KernelIdeal Cert.KernelIdeal.Gen
open Idealize.ShloMosaic Idealize.ShloMosaic.TcCoe Idealize.ShloMosaic.Tactic
open Idealize.SL.Sem

/-- A column of the packed weights: the one in column `4 c + j` is that of channel `64 j + c`. -/
theorem packed_apply (w : Vec Ideal S27x256x192 .fp8e4m3) (k : Fin 27) (o : Fin 192) (x : Fin 256) :
    (shapeCast S27x192x256 (transpose S27x192x64x4 [0, 3, 2, 1]
      (shapeCast S27x4x64x192 w shapeCasts_S27x256x192_S27x4x64x192)
      transposes_S27x4x64x192_S27x192x64x4_0_3_2_1) shapeCasts_S27x192x64x4_S27x192x256 : Vec Ideal S27x192x256 .fp8e4m3) (ix3 k o x)
    = w (ix3 k ⟨64 * (x.val % 4) + x.val / 4, by omega⟩ o) := by
  refine (shapeCast_apply _ _ _ (ix4 k o (⟨x.val / 4, by omega⟩ : Fin 64) (⟨x.val % 4, by omega⟩ : Fin 4) : S27x192x64x4.Idx) ?_).trans ?_
  · rw [Shape.rowMajor_val_four, Shape.rowMajor_val_three]
    show ((k.val * 192 + o.val) * 64 + x.val / 4) * 4 + x.val % 4 = (k.val * 192 + o.val) * 256 + x.val
    omega
  refine Eq.trans (b := (shapeCast S27x4x64x192 w shapeCasts_S27x256x192_S27x4x64x192) (ix4 k (⟨x.val % 4, by omega⟩ : Fin 4) (⟨x.val / 4, by omega⟩ : Fin 64) o : S27x4x64x192.Idx)) ?_ ?_
  · generalize shapeCast S27x4x64x192 w shapeCasts_S27x256x192_S27x4x64x192 = u
    pointwise
  refine shapeCast_apply _ _ _ _ ?_
  rw [Shape.rowMajor_val_four, Shape.rowMajor_val_three]
  show (k.val * 256 + (64 * (x.val % 4) + x.val / 4)) * 192 + o.val = ((k.val * 4 + x.val % 4) * 64 + x.val / 4) * 192 + o.val
  omega

variable (m : (ℓ : Loc nD τ sig) → Buf (Elt Ideal) ℓ) (ρ : Dev nD → PrngReg) (c : Dev nD)

/-! ## What each region finds -/

section Kept

variable (r : Ref sig .tc) (h : r ∈ [main_v2, main_v4, main_v6])
include h

theorem kept3 : V3 m ρ c r = V1 m ρ c r := by
  refine (W3_of m ρ c r ?_).trans (W2_of m ρ c r ?_) <;> (revert r; decide +kernel)
theorem kept5 : V5 m ρ c r = V1 m ρ c r := by
  refine ((W5_of m ρ c r ?_).trans (W4_of m ρ c r ?_)).trans (kept3 m ρ c r h) <;> (revert r; decide +kernel)
theorem kept7 : V7 m ρ c r = V1 m ρ c r := by
  refine ((W7_of m ρ c r ?_).trans (W6_of m ρ c r ?_)).trans (kept5 m ρ c r h) <;> (revert r; decide +kernel)
theorem kept9 : V9 m ρ c r = V1 m ρ c r := by
  refine ((W9_of m ρ c r ?_).trans (W8_of m ρ c r ?_)).trans (kept7 m ρ c r h) <;> (revert r; decide +kernel)
theorem kept11 : V11 m ρ c r = V1 m ρ c r := by
  refine ((W11_of m ρ c r ?_).trans (W10_of m ρ c r ?_)).trans (kept9 m ρ c r h) <;> (revert r; decide +kernel)

end Kept

theorem copy1 : V3 m ρ c main_v8 = V2 m ρ c main_v7 := by unfold_abbrev_sides; after_results; rfl
theorem copy2 : V5 m ρ c main_v9 = V4 m ρ c main_v8 := by unfold_abbrev_sides; after_results; rfl
theorem copy3 : V7 m ρ c main_v10 = V6 m ρ c main_v9 := by unfold_abbrev_sides; after_results; rfl
theorem copy4 : V9 m ρ c main_v11 = V8 m ρ c main_v10 := by unfold_abbrev_sides; after_results; rfl
theorem copy5 : V11 m ρ c main_v12 = V10 m ρ c main_v11 := by unfold_abbrev_sides; after_results; rfl

theorem last : W13 m ρ c (Proc.devRef .tc main_v13)
    = (transpose S6x65536x192 [0, 2, 1] (V12 m ρ c main_v12) transposes_S6x192x65536_S6x65536x192_0_2_1 : Vec Ideal S6x65536x192 .f32) := by
  unfold_abbrev_sides; after_results

/-- The packed weights. -/
theorem wt_eq : V1 m ρ c main_v2 = (shapeCast S27x192x256 (transpose S27x192x64x4 [0, 3, 2, 1]
      (shapeCast S27x4x64x192 (m ((c : Thread nD τ).loc main_arg7)) shapeCasts_S27x256x192_S27x4x64x192)
      transposes_S27x4x64x192_S27x192x64x4_0_3_2_1) shapeCasts_S27x192x64x4_S27x192x256 : Vec Ideal S27x192x256 .fp8e4m3) := by
  unfold_abbrev_sides; after_results; rfl

/-- The weight scales, one column per lane. -/
theorem ws_eq : V1 m ρ c main_v4 = (broadcastInDim S27x192x128 ![0, 1, 2] bcast_S27x192x1_S27x192x128_0_1_2
      (broadcastInDim S27x192x1 ![0, 1] bcast_S27x192_S27x192x1_0_1 (m ((c : Thread nD τ).loc main_arg8))) : Vec Ideal S27x192x128 .f32) := by
  unfold_abbrev_sides; after_results

/-- The bias, one column per lane. -/
theorem bias_eq : V1 m ρ c main_v6 = (broadcastInDim S192x128 ![0, 1] bcast_S192x1_S192x128_0_1
      (broadcastInDim S192x1 ![0] bcast_S192_S192x1_0 (m ((c : Thread nD τ).loc main_arg9))) : Vec Ideal S192x128 .f32) := by
  unfold_abbrev_sides; after_results

/-- A packed weight: the one in column `4 c + j` is that of channel `64 j + c`. -/
theorem wt_apply (k : Fin 27) (o : Fin 192) (x : Fin 256) : (V1 m ρ c main_v2 : Vec Ideal S27x192x256 .fp8e4m3) (ix3 k o x)
    = (m ((c : Thread nD τ).loc main_arg7) : Vec Ideal S27x256x192 .fp8e4m3) (ix3 k ⟨64 * (x.val % 4) + x.val / 4, by omega⟩ o) := by
  rw [wt_eq]
  exact packed_apply _ k o x

theorem ws_apply (k : Fin 27) (o : Fin 192) (l : Fin 128) : (V1 m ρ c main_v4 : Vec Ideal S27x192x128 .f32) (ix3 k o l)
    = (m ((c : Thread nD τ).loc main_arg8) : Vec Ideal S27x192 .f32) (ix2 k o) := by
  rw [ws_eq]
  pointwise

theorem bias_apply (o : Fin 192) (l : Fin 128) : (V1 m ρ c main_v6 : Vec Ideal S192x128 .f32) (ix2 o l)
    = (m ((c : Thread nD τ).loc main_arg9) : Vec Ideal S192 .f32) (ix1 o) := by
  rw [bias_eq]
  pointwise

/-! ## The scenes, one region after the other -/

/-- The value of scene `b`, of the gathered words `g`, over the arrays the host lays out. -/
abbrev scene (g : Vec Ideal S27x32768x128 .i32) (b : Fin 6) (o : Fin 192) (n : Fin 65536) : EReal :=
  sceneVal g (m ((c : Thread nD τ).loc main_arg6)) (V1 m ρ c main_v2) (V1 m ρ c main_v4) (V1 m ρ c main_v6) b o n

variable (b : Fin 6) (o : Fin 192) (n : Fin 65536)

theorem scene0 : V2 m ρ c main_v7 (ix3 b o n : S6x192x65536.Idx)
    = if b.val = 0 then scene m ρ c (m ((c : Thread nD τ).loc main_arg0)) 0 o n else V1 m ρ c main_v7 (ix3 b o n : S6x192x65536.Idx) := by
  refine (congrFun (W2_arr m ρ c 5) _).trans ((region0 (V1 m ρ) c b o n).trans ?_)
  rw [show V1 m ρ c main_arg0 = _ from W1_args m ρ c _ (by decide), show V1 m ρ c main_arg6 = _ from W1_args m ρ c _ (by decide)]

theorem scene1 : V4 m ρ c main_v8 (ix3 b o n : S6x192x65536.Idx)
    = if b.val = 1 then scene m ρ c (m ((c : Thread nD τ).loc main_arg1)) 1 o n else V2 m ρ c main_v7 (ix3 b o n : S6x192x65536.Idx) := by
  refine (congrFun (W4_arr m ρ c 5) _).trans ((region1 (V3 m ρ) c b o n).trans ?_)
  rw [show V3 m ρ c main_arg1 = _ from W3_args m ρ c _ (by decide), show V3 m ρ c main_arg6 = _ from W3_args m ρ c _ (by decide),
    kept3 m ρ c main_v2 (by decide), kept3 m ρ c main_v4 (by decide), kept3 m ρ c main_v6 (by decide), copy1]

theorem scene2 : V6 m ρ c main_v9 (ix3 b o n : S6x192x65536.Idx)
    = if b.val = 2 then scene m ρ c (m ((c : Thread nD τ).loc main_arg2)) 2 o n else V4 m ρ c main_v8 (ix3 b o n : S6x192x65536.Idx) := by
  refine (congrFun (W6_arr m ρ c 5) _).trans ((region2 (V5 m ρ) c b o n).trans ?_)
  rw [show V5 m ρ c main_arg2 = _ from W5_args m ρ c _ (by decide), show V5 m ρ c main_arg6 = _ from W5_args m ρ c _ (by decide),
    kept5 m ρ c main_v2 (by decide), kept5 m ρ c main_v4 (by decide), kept5 m ρ c main_v6 (by decide), copy2]

theorem scene3 : V8 m ρ c main_v10 (ix3 b o n : S6x192x65536.Idx)
    = if b.val = 3 then scene m ρ c (m ((c : Thread nD τ).loc main_arg3)) 3 o n else V6 m ρ c main_v9 (ix3 b o n : S6x192x65536.Idx) := by
  refine (congrFun (W8_arr m ρ c 5) _).trans ((region3 (V7 m ρ) c b o n).trans ?_)
  rw [show V7 m ρ c main_arg3 = _ from W7_args m ρ c _ (by decide), show V7 m ρ c main_arg6 = _ from W7_args m ρ c _ (by decide),
    kept7 m ρ c main_v2 (by decide), kept7 m ρ c main_v4 (by decide), kept7 m ρ c main_v6 (by decide), copy3]

theorem scene4 : V10 m ρ c main_v11 (ix3 b o n : S6x192x65536.Idx)
    = if b.val = 4 then scene m ρ c (m ((c : Thread nD τ).loc main_arg4)) 4 o n else V8 m ρ c main_v10 (ix3 b o n : S6x192x65536.Idx) := by
  refine (congrFun (W10_arr m ρ c 5) _).trans ((region4 (V9 m ρ) c b o n).trans ?_)
  rw [show V9 m ρ c main_arg4 = _ from W9_args m ρ c _ (by decide), show V9 m ρ c main_arg6 = _ from W9_args m ρ c _ (by decide),
    kept9 m ρ c main_v2 (by decide), kept9 m ρ c main_v4 (by decide), kept9 m ρ c main_v6 (by decide), copy4]

theorem scene5 : V12 m ρ c main_v12 (ix3 b o n : S6x192x65536.Idx)
    = if b.val = 5 then scene m ρ c (m ((c : Thread nD τ).loc main_arg5)) 5 o n else V10 m ρ c main_v11 (ix3 b o n : S6x192x65536.Idx) := by
  refine (congrFun (W12_arr m ρ c 5) _).trans ((region5 (V11 m ρ) c b o n).trans ?_)
  rw [show V11 m ρ c main_arg5 = _ from W11_args m ρ c _ (by decide), show V11 m ρ c main_arg6 = _ from W11_args m ρ c _ (by decide),
    kept11 m ρ c main_v2 (by decide), kept11 m ρ c main_v4 (by decide), kept11 m ρ c main_v6 (by decide), copy5]

/-- The gathered words of scene `b`. -/
def gathered : Fin 6 → Vec Ideal S27x32768x128 .i32
  | 0 => m ((c : Thread nD τ).loc main_arg0)
  | 1 => m ((c : Thread nD τ).loc main_arg1)
  | 2 => m ((c : Thread nD τ).loc main_arg2)
  | 3 => m ((c : Thread nD τ).loc main_arg3)
  | 4 => m ((c : Thread nD τ).loc main_arg4)
  | 5 => m ((c : Thread nD τ).loc main_arg5)

/-- After the last region every scene holds its values. -/
theorem scenes : V12 m ρ c main_v12 (ix3 b o n : S6x192x65536.Idx) = scene m ρ c (gathered m c b) b o n := by
  rw [scene5, scene4, scene3, scene2, scene1, scene0]
  fin_cases b <;> rfl

/-- The kernel's result. -/
theorem result : W13 m ρ c (Proc.devRef .tc main_v13) (ix3 b n o : S6x65536x192.Idx) = scene m ρ c (gathered m c b) b o n := by
  rw [last]
  refine Eq.trans ?_ (scenes m ρ c b o n)
  pointwise

end Cert.Proof.Conv
-- ==== Proof.Reference.lean ====
/-
  The reference's result: its host operations lay the codes of the gathered words out by channel, and its one kernel call
  takes the products with the weights, scales them, adds them over the offsets and adds the bias.
-/
module

public import proofs.«01_k».proof.Proof.Gen.ReferenceIdeal.Frame
public import proofs.«01_k».proof.Proof.Values
public import Idealize.ShloMosaic.Lib.Pointwise
public import Idealize.ShloMosaic.Lib.Pipeline.ValueKit
public import Idealize.ShloMosaic.Lib.BitcastConvert
public import Idealize.ShloMosaic.Lib.ValueIdxRank6

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Cert.Proof.Conv (codeOf)

/-! ## The codes, by channel -/

/-- The host's reading of gathered words as codes, one row per voxel and one column per channel. -/
def codes (g : Vec Ideal S27x32768x128 .i32) : Vec Ideal S27x65536x256 .fp8e4m3 :=
  shapeCast S27x65536x256 (transpose S27x256x2x128x4x64 [0, 1, 3, 2, 5, 4]
    (bitcastToFloat (F := Ideal) .fp8e4m3 (Host.bitcastConvertNarrow S27x256x128x2x64x4 8
      (shapeCast S27x256x128x2x64 g shapeCasts_S27x32768x128_S27x256x128x2x64) splits_S27x256x128x2x64_w32_S27x256x128x2x64x4_w8))
    transposes_S27x256x128x2x64x4_S27x256x2x128x4x64_0_1_3_2_5_4) shapeCasts_S27x256x2x128x4x64_S27x65536x256

/-- Channel `64 j + c` of a voxel is byte `j` of the word in lane `64 h + c`, `h` the voxel's half of its block of 256. -/
theorem codes_apply (g : Vec Ideal S27x32768x128 .i32) (k : Fin 27) (n : Fin 65536) (x : Fin 256) :
    codes g (ix3 k n x)
      = codeOf (g (ix3 k ⟨128 * (n.val / 256) + n.val % 128, by omega⟩ ⟨x.val % 64 + 64 * (n.val / 128 % 2), by omega⟩)) (x.val / 64) := by
  unfold codes
  refine (shapeCast_apply _ _ _ (ValueIdx.ix6 k (⟨n.val / 256, by omega⟩ : Fin 256) (⟨n.val / 128 % 2, by omega⟩ : Fin 2)
    (⟨n.val % 128, by omega⟩ : Fin 128) (⟨x.val / 64, by omega⟩ : Fin 4) (⟨x.val % 64, by omega⟩ : Fin 64) : S27x256x2x128x4x64.Idx) ?_).trans ?_
  · rw [Shape.rowMajor_val_six, Shape.rowMajor_val_three]
    show ((((k.val * 256 + n.val / 256) * 2 + n.val / 128 % 2) * 128 + n.val % 128) * 4 + x.val / 64) * 64 + x.val % 64
      = (k.val * 65536 + n.val) * 256 + x.val
    omega
  refine (transpose_apply _ _ _ _ (ValueIdx.ix6 k (⟨n.val / 256, by omega⟩ : Fin 256) (⟨n.val % 128, by omega⟩ : Fin 128)
    (⟨n.val / 128 % 2, by omega⟩ : Fin 2) (⟨x.val % 64, by omega⟩ : Fin 64) (⟨x.val / 64, by omega⟩ : Fin 4) : S27x256x128x2x64x4.Idx) ?_).trans ?_
  · intro b
    match b with
    | ⟨0, _⟩ => rfl
    | ⟨1, _⟩ => rfl
    | ⟨2, _⟩ => rfl
    | ⟨3, _⟩ => rfl
    | ⟨4, _⟩ => rfl
    | ⟨5, _⟩ => rfl
  unfold codeOf
  refine congrArg (Ideal.ofBits .fp8e4m3) ?_
  rw [Host.bitcastConvertNarrow_apply]
  refine congrArg₂ (fun (u : BitVec 32) (p : Nat) => u.extractLsb' p 8) ?_ (Nat.mul_comm _ _)
  refine shapeCast_apply _ _ _ _ ?_
  rw [Shape.rowMajor_val_five, Shape.rowMajor_val_three]
  show (k.val * 32768 + (128 * (n.val / 256) + n.val % 128)) * 128 + (x.val % 64 + 64 * (n.val / 128 % 2))
    = (((k.val * 256 + n.val / 256) * 128 + n.val % 128) * 2 + n.val / 128 % 2) * 64 + x.val % 64
  omega

/-! ## One scene -/

/-- One scene of the reference's kernel at a voxel and an output channel. -/
theorem pay_apply (g : Vec Ideal S27x65536x256 .fp8e4m3) (w : Vec Ideal S27x256x192 .fp8e4m3) (xs : Vec Ideal S1x27x65536 .f32)
    (ws : Vec Ideal S27x192 .f32) (b : Vec Ideal S192 .f32) (z : Fin 1) (n : Fin 65536) (o : Fin 192) :
    k0_pay3 g w xs ws b (ix3 z n o)
      = (∑ k : Fin 27, (∑ x : Fin 256, g (ix3 k n x) * w (ix3 k x o)) * (xs (ix3 0 k n) * ws (ix2 k o))) + b (ix1 o) := by
  pointwise [k0_pay3]

section Same

variable (g : Vec Ideal S27x65536x256 .fp8e4m3) (w : Vec Ideal S27x256x192 .fp8e4m3) (xs : Vec Ideal S1x27x65536 .f32)
  (ws : Vec Ideal S27x192 .f32) (b : Vec Ideal S192 .f32)

/-! The other scenes' payloads are the same function of their own operands. -/

theorem pay2_eq : k0_pay2 g w xs ws b = k0_pay3 g w xs ws b := rfl
theorem pay1_eq : k0_pay1 (k0_pay10 g w) (k0_pay11 xs ws) b = k0_pay3 g w xs ws b := rfl
theorem pay9_eq : k0_pay9 g w xs ws b = k0_pay3 g w xs ws b := rfl
theorem pay8_eq : k0_pay8 g w xs ws b = k0_pay3 g w xs ws b := rfl
theorem pay7_eq : k0_pay7 (k0_pay4 g w) (k0_pay5 xs) (k0_pay6 ws) b = k0_pay3 g w xs ws b := rfl

end Same

/-- The reference's result at scene `b`, voxel `n` and output channel `o`. -/
def refVal (g : Fin 6 → Vec Ideal S27x65536x256 .fp8e4m3) (xs : Vec Ideal S6x27x65536 .f32) (w : Vec Ideal S27x256x192 .fp8e4m3)
    (ws : Vec Ideal S27x192 .f32) (bias : Vec Ideal S192 .f32) (b : Fin 6) (n : Fin 65536) (o : Fin 192) : EReal :=
  (∑ k : Fin 27, (∑ x : Fin 256, g b (ix3 k n x) * w (ix3 k x o)) * (xs (ix3 b k n) * ws (ix2 k o))) + bias (ix1 o)

theorem piece_apply (g : Fin 6 → Vec Ideal S27x65536x256 .fp8e4m3) (xs : Vec Ideal S6x27x65536 .f32) (w : Vec Ideal S27x256x192 .fp8e4m3)
    (ws : Vec Ideal S27x192 .f32) (bias : Vec Ideal S192 .f32) (b : Fin 6) (h h') (x : S1x65536x192.Idx) :
    k0_pay3 (View.ld (g b) r0_0) (View.ld w r0_1) (View.ld xs (Rect.unit (s := S6x27x65536) ![b.val, 0, 0] S1x27x65536.size h)) (View.ld ws r0_3) (View.ld bias r0_4) x
      = (fun y : S6x65536x192.Idx => refVal g xs w ws bias (y 0) (y 1) (y 2))
        ((Rect.unit (s := S6x65536x192) ![b.val, 0, 0] S1x65536x192.size h').emb x) := by
  obtain ⟨z, n, o, rfl⟩ : ∃ (z : Fin 1) (n : Fin 65536) (o : Fin 192), x = ix3 z n o := ⟨x 0, x 1, x 2, (ix3_eta x).symm⟩
  have e : (Rect.unit (s := S6x65536x192) ![b.val, 0, 0] S1x65536x192.size h').emb (ix3 z n o) = ix3 b n o := by
    funext a
    match a with
    | ⟨0, _⟩ => exact Fin.ext (by show b.val + 1 * z.val = b.val; omega)
    | ⟨1, _⟩ => exact Fin.ext (by show 0 + 1 * n.val = n.val; omega)
    | ⟨2, _⟩ => exact Fin.ext (by show 0 + 1 * o.val = o.val; omega)
  rw [pay_apply, e]
  unfold refVal
  pointwise

/-- The reference's body at an index of its result. -/
theorem out_apply (x0 x1 x2 x3 x4 x5 : Vec Ideal S27x65536x256 .fp8e4m3) (xs : Vec Ideal S6x27x65536 .f32) (w : Vec Ideal S27x256x192 .fp8e4m3)
    (ws : Vec Ideal S27x192 .f32) (bias : Vec Ideal S192 .f32) (b : Fin 6) (n : Fin 65536) (o : Fin 192) :
    out0_10 x0 x1 x2 x3 x4 x5 xs w ws bias (ix3 b n o) = refVal ![x0, x1, x2, x3, x4, x5] xs w ws bias b n o := by
  unfold out0_10
  rw [pay2_eq, pay1_eq, pay9_eq, pay8_eq, pay7_eq]
  refine (View.canon_apply_of_pieces (fun y : S6x65536x192.Idx => refVal ![x0, x1, x2, x3, x4, x5] xs w ws bias (y 0) (y 1) (y 2)) _ ?_ _
    (cover0_10 _ _ _ _ _ _ _)).trans rfl
  intro p hp
  simp only [List.mem_cons, List.not_mem_nil, or_false] at hp
  rcases hp with rfl | rfl | rfl | rfl | rfl | rfl
  · exact piece_apply ![x0, x1, x2, x3, x4, x5] xs w ws bias 5 inb_S6x27x65536_S1x27x65536_5_0_0 inb_S6x65536x192_S1x65536x192_5_0_0
  · exact piece_apply ![x0, x1, x2, x3, x4, x5] xs w ws bias 4 inb_S6x27x65536_S1x27x65536_4_0_0 inb_S6x65536x192_S1x65536x192_4_0_0
  · exact piece_apply ![x0, x1, x2, x3, x4, x5] xs w ws bias 3 inb_S6x27x65536_S1x27x65536_3_0_0 inb_S6x65536x192_S1x65536x192_3_0_0
  · exact piece_apply ![x0, x1, x2, x3, x4, x5] xs w ws bias 2 inb_S6x27x65536_S1x27x65536_2_0_0 inb_S6x65536x192_S1x65536x192_2_0_0
  · exact piece_apply ![x0, x1, x2, x3, x4, x5] xs w ws bias 1 inb_S6x27x65536_S1x27x65536_1_0_0 inb_S6x65536x192_S1x65536x192_1_0_0
  · exact piece_apply ![x0, x1, x2, x3, x4, x5] xs w ws bias 0 inb_S6x27x65536_S1x27x65536_0_0_0 inb_S6x65536x192_S1x65536x192_0_0_0

end Cert.Proof.Ref
-- ==== Proof.RefArray.lean ====
/-
  The reference's result array: its one kernel call has a single grid point, whose blocks are the whole arrays.
-/
module

public import proofs.«01_k».proof.Proof.Reference
public import Idealize.ShloMosaic.Lib.Claim

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic

/-! ## The blocks of the single grid point -/

section Blocks

variable (c : Dev nD) (W : (b : Ref sig .tc) → Buf (Elt Ideal) ((c : Thread nD τ).loc b)) (t : Fin cfg0.N)

theorem blk0 : ((cfg0.win 0).blk t).view.read (Elt Ideal) (W (Pipeline.arrRef spec0 0)) = W main_v3 := by
  have e : ∀ t : Fin cfg0.N, win0_0.index t = ![0, 0, 0] := (by decide +kernel : ∀ t : Fin grid0.N, _)
  funext y; blk_simp; refine congrArg _ ?_; blk_ext [e]
theorem blk1 : ((cfg0.win 1).blk t).view.read (Elt Ideal) (W (Pipeline.arrRef spec0 1)) = W main_v7 := by
  have e : ∀ t : Fin cfg0.N, win0_1.index t = ![0, 0, 0] := (by decide +kernel : ∀ t : Fin grid0.N, _)
  funext y; blk_simp; refine congrArg _ ?_; blk_ext [e]
theorem blk2 : ((cfg0.win 2).blk t).view.read (Elt Ideal) (W (Pipeline.arrRef spec0 2)) = W main_v11 := by
  have e : ∀ t : Fin cfg0.N, win0_2.index t = ![0, 0, 0] := (by decide +kernel : ∀ t : Fin grid0.N, _)
  funext y; blk_simp; refine congrArg _ ?_; blk_ext [e]
theorem blk3 : ((cfg0.win 3).blk t).view.read (Elt Ideal) (W (Pipeline.arrRef spec0 3)) = W main_v15 := by
  have e : ∀ t : Fin cfg0.N, win0_3.index t = ![0, 0, 0] := (by decide +kernel : ∀ t : Fin grid0.N, _)
  funext y; blk_simp; refine congrArg _ ?_; blk_ext [e]
theorem blk4 : ((cfg0.win 4).blk t).view.read (Elt Ideal) (W (Pipeline.arrRef spec0 4)) = W main_v19 := by
  have e : ∀ t : Fin cfg0.N, win0_4.index t = ![0, 0, 0] := (by decide +kernel : ∀ t : Fin grid0.N, _)
  funext y; blk_simp; refine congrArg _ ?_; blk_ext [e]
theorem blk5 : ((cfg0.win 5).blk t).view.read (Elt Ideal) (W (Pipeline.arrRef spec0 5)) = W main_v23 := by
  have e : ∀ t : Fin cfg0.N, win0_5.index t = ![0, 0, 0] := (by decide +kernel : ∀ t : Fin grid0.N, _)
  funext y; blk_simp; refine congrArg _ ?_; blk_ext [e]
theorem blk6 : ((cfg0.win 6).blk t).view.read (Elt Ideal) (W (Pipeline.arrRef spec0 6)) = W main_arg6 := by
  have e : ∀ t : Fin cfg0.N, win0_6.index t = ![0, 0, 0] := (by decide +kernel : ∀ t : Fin grid0.N, _)
  funext y; blk_simp; refine congrArg _ ?_; blk_ext [e]
theorem blk7 : ((cfg0.win 7).blk t).view.read (Elt Ideal) (W (Pipeline.arrRef spec0 7)) = W main_arg7 := by
  have e : ∀ t : Fin cfg0.N, win0_7.index t = ![0, 0, 0] := (by decide +kernel : ∀ t : Fin grid0.N, _)
  funext y; blk_simp; refine congrArg _ ?_; blk_ext [e]
theorem blk8 : ((cfg0.win 8).blk t).view.read (Elt Ideal) (W (Pipeline.arrRef spec0 8)) = W main_arg8 := by
  have e : ∀ t : Fin cfg0.N, win0_8.index t = ![0, 0] := (by decide +kernel : ∀ t : Fin grid0.N, _)
  funext y; blk_simp; refine congrArg _ ?_; blk_ext [e]
theorem blk9 : ((cfg0.win 9).blk t).view.read (Elt Ideal) (W (Pipeline.arrRef spec0 9)) = W main_arg9 := by
  have e : ∀ t : Fin cfg0.N, win0_9.index t = ![0] := (by decide +kernel : ∀ t : Fin grid0.N, _)
  funext y; blk_simp; refine congrArg _ ?_; blk_ext [e]

end Blocks

/-! ## The result array -/

variable (m : (ℓ : Loc nD τ sig) → Buf (Elt Ideal) ℓ) (c : Dev nD)

theorem codes0 : V m c main_v3 = codes (m ((c : Thread nD τ).loc main_arg0)) := by unfold_abbrev_sides; after_results; rfl
theorem codes1 : V m c main_v7 = codes (m ((c : Thread nD τ).loc main_arg1)) := by unfold_abbrev_sides; after_results; rfl
theorem codes2 : V m c main_v11 = codes (m ((c : Thread nD τ).loc main_arg2)) := by unfold_abbrev_sides; after_results; rfl
theorem codes3 : V m c main_v15 = codes (m ((c : Thread nD τ).loc main_arg3)) := by unfold_abbrev_sides; after_results; rfl
theorem codes4 : V m c main_v19 = codes (m ((c : Thread nD τ).loc main_arg4)) := by unfold_abbrev_sides; after_results; rfl
theorem codes5 : V m c main_v23 = codes (m ((c : Thread nD τ).loc main_arg5)) := by unfold_abbrev_sides; after_results; rfl

/-- The six scenes' gathered words. -/
def gathered : Fin 6 → Vec Ideal S27x32768x128 .i32 :=
  ![m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)]

/-- The reference's result from its arguments. -/
abbrev value (b : Fin 6) (n : Fin 65536) (o : Fin 192) : EReal :=
  refVal (fun b => codes (gathered m c b)) (m ((c : Thread nD τ).loc main_arg6)) (m ((c : Thread nD τ).loc main_arg7))
    (m ((c : Thread nD τ).loc main_arg8)) (m ((c : Thread nD τ).loc main_arg9)) b n o

/-- What the grid point leaves in the result's buffer. -/
theorem after_eq (t : Fin cfg0.N) : (dats m 0 c).after 10 t
    = out0_10 (codes (m ((c : Thread nD τ).loc main_arg0))) (codes (m ((c : Thread nD τ).loc main_arg1))) (codes (m ((c : Thread nD τ).loc main_arg2)))
        (codes (m ((c : Thread nD τ).loc main_arg3))) (codes (m ((c : Thread nD τ).loc main_arg4))) (codes (m ((c : Thread nD τ).loc main_arg5)))
        (m ((c : Thread nD τ).loc main_arg6)) (m ((c : Thread nD τ).loc main_arg7)) (m ((c : Thread nD τ).loc main_arg8)) (m ((c : Thread nD τ).loc main_arg9)) := by
  rw [after0_10]
  unfold iblk
  rw [blk0, blk1, blk2, blk3, blk4, blk5, blk6, blk7, blk8, blk9, codes0, codes1, codes2, codes3, codes4, codes5,
    V_main_arg6, V_main_arg7, V_main_arg8, V_main_arg9]

/-- The result array after the call. -/
theorem arr_apply (b : Fin 6) (n : Fin 65536) (o : Fin 192) :
    (dats m 0 c).arrAt 10 cfg0.N (ix3 b n o : S6x65536x192.Idx) = value m c b n o := by
  refine congrFun ((dats m 0 c).arrAt_eq_of_covers 10 (fun y : S6x65536x192.Idx => value m c (y 0) (y 1) (y 2))
    (by decide +kernel) fun t hf y => ?_) (ix3 b n o : S6x65536x192.Idx)
  have e : ∀ t : Fin cfg0.N, win0_10.index t = ![0, 0, 0] := (by decide +kernel : ∀ t : Fin grid0.N, _)
  obtain ⟨b, n, o, rfl⟩ : ∃ (b : Fin 6) (n : Fin 65536) (o : Fin 192), y = ix3 b n o := ⟨y 0, y 1, y 2, (ix3_eta y).symm⟩
  have he : ((cfg0.win 10).blk t).view.emb (ix3 b n o) = (ix3 b n o : S6x65536x192.Idx) := by blk_ext [e]
  rw [he]
  blk_simp
  rw [after_eq, out_apply]
  unfold value
  congr 1
  funext b
  fin_cases b <;> rfl

end Cert.Proof.Ref
-- ==== Proof.Equation.lean ====
/-
  The kernel's sums are the reference's: the packed columns are the channels in another order, and the products are taken
  in another order.
-/
module

public import proofs.«01_k».proof.Proof.Chain
public import proofs.«01_k».proof.Proof.RefArray
public import Mathlib.Algebra.BigOperators.Group.Finset.Basic

@[expose] public section

set_option maxRecDepth 16384

noncomputable section

namespace Cert.Proof

open Idealize.ShloMosaic Idealize.ShloMosaic.TcCoe Idealize.ShloMosaic.Tactic
open Cert.KernelIdeal Cert.KernelIdeal.Gen
open Conv (sceneVal codeOf)

/-- The channel that a packed column holds. -/
def channel : Fin 256 ≃ Fin 256 where
  toFun x := ⟨64 * (x.val % 4) + x.val / 4, by omega⟩
  invFun x := ⟨4 * (x.val % 64) + x.val / 64, by omega⟩
  left_inv x := Fin.ext (by simp only []; omega)
  right_inv x := Fin.ext (by simp only []; omega)

/-- A scene of the kernel is the reference's, for arrays laid out as the host lays them out. -/
theorem scene_eq (g : Fin 6 → Vec Ideal S27x32768x128 .i32) (xs : Vec Ideal S6x27x65536 .f32) (w : Vec Ideal S27x256x192 .fp8e4m3)
    (ws : Vec Ideal S27x192 .f32) (bias : Vec Ideal S192 .f32)
    (A2 : Vec Ideal S27x192x256 .fp8e4m3) (A3 : Vec Ideal S27x192x128 .f32) (A4 : Vec Ideal S192x128 .f32)
    (h2 : ∀ (k : Fin 27) (o : Fin 192) (x : Fin 256), A2 (ix3 k o x) = w (ix3 k (channel x) o))
    (h3 : ∀ (k : Fin 27) (o : Fin 192) (l : Fin 128), A3 (ix3 k o l) = ws (ix2 k o))
    (h4 : ∀ (o : Fin 192) (l : Fin 128), A4 (ix2 o l) = bias (ix1 o)) (b : Fin 6) (o : Fin 192) (n : Fin 65536) :
    sceneVal (g b) xs A2 A3 A4 b o n = Ref.refVal (fun b => Ref.codes (g b)) xs w ws bias b n o := by
  unfold sceneVal Ref.refVal
  rw [h4]
  refine congrArg (· + bias (ix1 o)) (Finset.sum_congr rfl fun k _ => ?_)
  rw [h3, mul_comm (ws (ix2 k o))]
  refine congrArg (· * (xs (ix3 b k n) * ws (ix2 k o))) (Fintype.sum_equiv channel _ _ fun x => ?_)
  show A2 (ix3 k o x) * _ = Ref.codes (g b) (ix3 k n (channel x)) * w (ix3 k (channel x) o)
  rw [h2, Ref.codes_apply, mul_comm]
  have e1 : (channel x).val % 64 = x.val / 4 := by show (64 * (x.val % 4) + x.val / 4) % 64 = x.val / 4; omega
  have e2 : (channel x).val / 64 = x.val % 4 := by show (64 * (x.val % 4) + x.val / 4) / 64 = x.val % 4; omega
  simp only [e1, e2]

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ) (c : Dev nD)

/-- The kernel's result array is the reference's when their arguments agree. -/
theorem result_eq
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    : (W13 m ρ c (Proc.devRef .tc main_v13) : Vec Ideal S6x65536x192 .f32)
      = (Cert.ReferenceIdeal.Gen.dats m' 0 c).arrAt 10 Cert.ReferenceIdeal.cfg0.N := by
  funext y
  obtain ⟨b, n, o, rfl⟩ : ∃ (b : Fin 6) (n : Fin 65536) (o : Fin 192), y = ix3 b n o := ⟨y 0, y 1, y 2, (ix3_eta y).symm⟩
  refine (Conv.result m ρ c b o n).trans (Eq.trans ?_ (Ref.arr_apply m' c b n o).symm)
  have hg : Ref.gathered m' c = Conv.gathered m c := by
    funext b
    fin_cases b
    exacts [h0, h1, h2, h3, h4, h5]
  unfold Ref.value Conv.scene
  rw [hg, h6, h7, h8, h9]
  exact scene_eq (Conv.gathered m c) _ _ _ _ _ _ _ (Conv.wt_apply m ρ c) (Conv.ws_apply m ρ c) (Conv.bias_apply m ρ c) b o n

end Cert.Proof
-- ==== Proof.KernelRun.lean ====
/-
  The kernel's run, read at its result: the same launch over the segments as the frame's, the last thread state read at the
  result array instead of at the arguments.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

set_option backward.isDefEq.respectTransparency.types false in
/-- Every run ends with the result array at the last boundary's contents. -/
theorem result_run : θ_run defs (onTc (τ := τ) (main (F := F))) ⟨m, fun _ => 0, ρ⟩ (fun r => ∀ c : Dev nD,
      r.2.mem ((c.tc : Thread nD τ).loc main_v13) = W13 m ρ c (Proc.devRef .tc main_v13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ c => h c _ (mem_uc main_v13 (by decide)))

end Cert.KernelIdeal.Gen
-- ==== Proof.PrepFrame.lean ====
/-
  The call that lays out the table of code words runs, and leaves its argument unchanged. Its body reads one block of
  4096 voxels and stores the words of two voxels to a row: the even rows and the odd rows by one strided store each.
-/
module

public import proofs.«01_k».proof.Proof.Gen.Prep.Frame
public import proofs.«01_k».proof.Proof.Gen.Prep.Skeleton
public import Idealize.ShloMosaic.Lib.Claim

@[expose] public section

set_option maxRecDepth 16384

noncomputable section

namespace Cert.Prep.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-! ## The body's accesses -/

/-- The whole block of codes. -/
abbrev rIn : Rect S4096x256 := Rect.unit (s := S4096x256) ![0, 0] S4096x256.size inb_S4096x256_S4096x256_0_0

/-- The even rows of the block of words. -/
abbrev rEven : Rect S2048x128 := ⟨⟨![0, 0], S1024x128.size, ![2, 1], inb_S2048x128_S1024x128_0_0_s_2_1⟩, spos_2_1⟩

/-- The odd rows of the block of words. -/
abbrev rOdd : Rect S2048x128 := ⟨⟨![1, 0], S1024x128.size, ![2, 1], inb_S2048x128_S1024x128_1_0_s_2_1⟩, spos_2_1⟩

/-- The words of the odd rows. -/
abbrev oddWords (x0 : Vec F S4096x256 .fp8e4m3) : IVec S1024x128 32 :=
  k0_pay1 (k0_pay10 x0) (k0_pay11 x0) (k0_pay13 x0) (k0_pay14 x0) 16#32

/-- What the body leaves in the block of words: its two stores, the last first. -/
def outWords (x0 : Vec F S4096x256 .fp8e4m3) : Vec F S2048x128 .i32 :=
  View.canon [⟨rOdd, oddWords (View.ld x0 rIn)⟩, ⟨rEven, k0_pay12 (View.ld x0 rIn)⟩]

/-- Every row of the block is even or odd, so the two stores cover it. -/
theorem cover (p0 p1 : Vec F S1024x128 .i32) (y : S2048x128.Idx) :
    ∃ pc ∈ ([⟨rOdd, p0⟩, ⟨rEven, p1⟩] : List (View.Piece (Elt F) S2048x128 .i32)), y ∈ pc.1.set := by
  have h0 : (y 0).val < 2048 := (y 0).isLt
  have h1 : (y 1).val < 128 := (y 1).isLt
  by_cases h : (y 0).val % 2 = 1
  · refine ⟨_, List.mem_cons_self, (LoadRect.mem_set _).mpr fun a => ?_⟩
    match a with
    | ⟨0, _⟩ => exact ⟨(y 0).val / 2, by show _ < 1024; omega, by show (y 0).val = 1 + 2 * ((y 0).val / 2); omega⟩
    | ⟨1, _⟩ => exact ⟨(y 1).val, h1, by show (y 1).val = 0 + 1 * (y 1).val; omega⟩
  · refine ⟨_, List.mem_cons_of_mem _ List.mem_cons_self, (LoadRect.mem_set _).mpr fun a => ?_⟩
    match a with
    | ⟨0, _⟩ => exact ⟨(y 0).val / 2, by show _ < 1024; omega, by show (y 0).val = 0 + 2 * ((y 0).val / 2); omega⟩
    | ⟨1, _⟩ => exact ⟨(y 1).val, h1, by show (y 1).val = 0 + 1 * (y 1).val; omega⟩

/-! ## The body's triple -/

set_option maxHeartbeats 1000000 in
/-- The body on whole buffers, the codes' at `x0` and the words' at anything, leaves the codes as they were and the words
    at `outWords x0`. -/
theorem sound_kernel (c : Dev nD) (E : Set ℕ) (i : grid0.Coords) (arg1 : Memref sig .tc .vmem S4096x256 .fp8e4m3) (harg1 : arg1.IsWhole)
    (arg2 : Memref sig .tc .vmem S2048x128 .i32) (harg2 : arg2.IsWhole) (x0 : Vec F S4096x256 .fp8e4m3)
    (K : PUnit → sProp (MT nD τ sig Unit (Elt F) ℕ (UR sig nD τ) ℕ)) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outWords x0)) -∗ K ⟨⟩))
      ⊢ wp frame (wpE (defs₀ (F := F)) Variants.none c none) E (cc0_prep i arg1 harg1 arg2 harg2) K := by
  simp only [cc0_prep_eq_skeleton]; unfold cc0_prep_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _ _)

/-! ## The pipeline's proof data -/

/-- The arrays as the region finds them; after the body at a point the codes' buffer at its block and the words' at
    `outWords` of it; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outWords (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outWords (iblk m c 0 t) := by dsimp only [dats]

/-- The codes' buffer holds its block at every point. -/
theorem before0_0 (c : Dev nD) (t : Fin cfg0.N) (d) : (dats m 0 c).before 0 t d = iblk m c 0 t :=
  before0_0_of m (dats m 0 c) (A_eq m c 0) (after0_0 m c) t d

/-! ## The body obligation -/

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, after0_0, after0_1]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch ends with the arrays at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument array ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: the argument ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Prep.Gen

end
-- ==== Proof.PrepWords.lean ====
/-
  The words that one grid point of the table's call stores: byte `j` of the word in row `R` and lane `l` is the code of
  voxel `2 R + l / 64` of the block at channel `64 j + l % 64`.
-/
module

public import proofs.«01_k».proof.Proof.PrepFrame
public import Idealize.ShloMosaic.Lib.Pointwise
public import Idealize.ShloMosaic.Lib.BitcastFour

@[expose] public section

set_option maxRecDepth 16384

noncomputable section

namespace Cert.Proof.Prep

open Cert.Prep Cert.Prep.Gen
open Idealize.ShloMosaic Idealize.ShloMosaic.TcCoe Idealize.ShloMosaic.Tactic

variable {F : FTy → Type} [BitOps F]

/-- The low bytes of four words, joined: the first the lowest. -/
abbrev join (u0 u1 u2 u3 : BitVec 32) : BitVec 32 :=
  (u0 &&& 255#32) ||| ((u1 &&& 255#32) <<< 8) ||| ((u2 &&& 255#32) <<< 16) ||| (u3 <<< 24)

/-- A word's low byte, widened. -/
theorem and_255 (u : BitVec 32) : u &&& 255#32 = (u.setWidth 8).setWidth 32 := by
  apply BitVec.eq_of_getLsbD_eq
  intro i hi
  have h255 : (255#32 : BitVec 32).getLsbD i = decide (i < 8) := by
    have : i < 32 := hi
    interval_cases i <;> rfl
  rw [BitVec.getLsbD_and, h255, BitVec.getLsbD_setWidth, BitVec.getLsbD_setWidth]
  simp [hi, Bool.and_comm]

theorem shl_24 (u : BitVec 32) : u <<< 24 = (u.setWidth 8).setWidth 32 <<< 24 := by
  apply BitVec.eq_of_getLsbD_eq
  intro i hi
  simp only [BitVec.getLsbD_shiftLeft, BitVec.getLsbD_setWidth]
  by_cases h : i < 24
  · simp [h]
  · simp [h, hi, show i - 24 < 32 by omega, show i - 24 < 8 by omega]

/-- Bit `q` of the joined word is bit `q % 8` of word `q / 8`. -/
theorem join_getLsbD (u : Fin 4 → BitVec 32) (q : Nat) (hq : q < 32) :
    (join (u 0) (u 1) (u 2) (u 3)).getLsbD q = (u ⟨q / 8, by omega⟩).getLsbD (q % 8) := by
  unfold join
  rw [and_255, and_255, and_255, shl_24, four_bytes_getLsbD (fun j => (u j).setWidth 8) q hq, BitVec.getLsbD_setWidth]
  simp [show q % 8 < 8 by omega]

variable (x : Vec F S4096x256 .fp8e4m3)

/-- A bit of the block's words: bit `q % 8` of byte `q / 8` of the word in row `r` and lane `l`. -/
theorem pay2_getLsbD (r : Fin 1024) (l : Fin 256) (q : Nat) (hq : q < 32) :
    (k0_pay2 x (ix2 r l)).getLsbD q = (bitcastToInt x (ix2 ⟨4 * r.val + q / 8, by omega⟩ l)).getLsbD (q % 8) := by
  unfold k0_pay2
  rw [shapeCast_self]
  exact bitcast_8_32_getLsbD_ix2 _ _ r l q hq ⟨4 * r.val + q / 8, by omega⟩ rfl

/-- The choice between the lanes of the first and of the second voxel of a row. -/
theorem select_lane {α : Type} (l : Fin 128) (a b : α) :
    Scalar.select (IntOp.cmpi .slt (BitVec.ofNat 32 l.val) 64#32) a b = if l.val < 64 then a else b := by
  have h : ∀ l : Fin 128, (IntOp.cmpi .slt (BitVec.ofNat 32 l.val) 64#32 = 1) = (l.val < 64) := by decide
  unfold Scalar.select
  simp only [h]

/-- The four words a row joins, by the quarter of the channels. -/
def srcs : Fin 4 → IVec S1024x128 32 := ![k0_pay8 x, k0_pay9 x, k0_pay10 x, k0_pay11 x]

/-- The word a lane takes for quarter `j`: the second voxel's lanes take it one byte further. -/
theorem srcs_apply (j : Fin 4) (r : Fin 1024) (l : Fin 128) :
    srcs x j (ix2 r l) = if l.val < 64 then k0_pay2 x (ix2 r ⟨64 * j.val + l.val % 64, by omega⟩)
      else k0_pay2 x (ix2 r ⟨64 * j.val + l.val % 64, by omega⟩) >>> 8 := by
  have sh : ∀ w : BitVec 32, IntOp.shrui ArithUnit.vector w 8#32 = w >>> 8 := fun w => rfl
  fin_cases j
  · show k0_pay8 x (ix2 r l) = _
    pointwise [k0_pay8, k0_pay7, k0_pay5, k0_pay3]
    rw [select_lane, sh]
    split
    · congr 2; exact Fin.ext (by simp; omega)
    · congr 3; exact Fin.ext (by simp; omega)
  · show k0_pay9 x (ix2 r l) = _
    pointwise [k0_pay9, k0_pay7, k0_pay5, k0_pay3]
    rw [select_lane, sh]
    split
    · congr 2; exact Fin.ext (by simp; omega)
    · congr 3; exact Fin.ext (by simp; omega)
  · show k0_pay10 x (ix2 r l) = _
    pointwise [k0_pay10, k0_pay7, k0_pay6, k0_pay4]
    rw [select_lane, sh]
    split
    · congr 2; exact Fin.ext (by simp; omega)
    · congr 3; exact Fin.ext (by simp; omega)
  · show k0_pay11 x (ix2 r l) = _
    pointwise [k0_pay11, k0_pay7, k0_pay6, k0_pay4]
    rw [select_lane, sh]
    split
    · congr 2; exact Fin.ext (by simp; omega)
    · congr 3; exact Fin.ext (by simp; omega)

/-- Byte `2 p` of that word is the code of voxel `2 p + l / 64` of the four. -/
theorem srcs_getLsbD (j : Fin 4) (p : Fin 2) (r : Fin 1024) (l : Fin 128) (q : Nat) (hq : q < 8) :
    (srcs x j (ix2 r l)).getLsbD (16 * p.val + q)
      = (bitcastToInt x (ix2 ⟨4 * r.val + 2 * p.val + l.val / 64, by omega⟩ ⟨64 * j.val + l.val % 64, by omega⟩)).getLsbD q := by
  rw [srcs_apply]
  split
  · rw [pay2_getLsbD _ _ _ _ (by omega)]
    congr 3
    · exact Fin.ext (by simp; omega)
    · omega
  · rw [BitVec.getLsbD_ushiftRight, pay2_getLsbD _ _ _ _ (by omega)]
    congr 3
    · exact Fin.ext (by simp; omega)
    · omega

/-- The code of byte `j` of the word in row `R` and lane `l` of the block. -/
def codeByte (R : Fin 2048) (l : Fin 128) (j : Fin 4) : BitVec 8 :=
  bitcastToInt x (ix2 ⟨2 * R.val + l.val / 64, by omega⟩ ⟨64 * j.val + l.val % 64, by omega⟩)

/-- Four bytes joined to a word, the first the lowest. -/
def word (b : Fin 4 → BitVec 8) : BitVec 32 :=
  (b 0).setWidth 32 ||| ((b 1).setWidth 32 <<< 8) ||| ((b 2).setWidth 32 <<< 16) ||| ((b 3).setWidth 32 <<< 24)

theorem word_getLsbD (b : Fin 4 → BitVec 8) (q : Nat) (hq : q < 32) :
    (word b).getLsbD q = (b ⟨q / 8, by omega⟩).getLsbD (q % 8) := four_bytes_getLsbD b q hq

/-- The words of the even rows. -/
theorem even_apply (r : Fin 1024) (l : Fin 128) : k0_pay12 x (ix2 r l) = word (codeByte x ⟨2 * r.val, by omega⟩ l) := by
  have e : k0_pay12 x (ix2 r l) = join (srcs x 0 (ix2 r l)) (srcs x 1 (ix2 r l)) (srcs x 2 (ix2 r l)) (srcs x 3 (ix2 r l)) := rfl
  apply BitVec.eq_of_getLsbD_eq
  intro q hq
  rw [e, join_getLsbD (fun j => srcs x j (ix2 r l)) q hq, word_getLsbD _ q hq]
  have h := srcs_getLsbD x ⟨q / 8, by omega⟩ 0 r l (q % 8) (by omega)
  have z : 16 * (0 : Fin 2).val + q % 8 = q % 8 := by simp
  rw [z] at h
  refine h.trans ?_
  unfold codeByte
  congr 3
  exact Fin.ext (by simp; omega)

/-- The words of the odd rows. -/
theorem odd_apply (r : Fin 1024) (l : Fin 128) : oddWords x (ix2 r l) = word (codeByte x ⟨2 * r.val + 1, by omega⟩ l) := by
  have e : oddWords x (ix2 r l) = join (srcs x 0 (ix2 r l) >>> 16) (srcs x 1 (ix2 r l) >>> 16) (srcs x 2 (ix2 r l) >>> 16) (srcs x 3 (ix2 r l) >>> 16) := rfl
  apply BitVec.eq_of_getLsbD_eq
  intro q hq
  rw [e, join_getLsbD (fun j => srcs x j (ix2 r l) >>> 16) q hq, BitVec.getLsbD_ushiftRight, word_getLsbD _ q hq]
  refine (srcs_getLsbD x ⟨q / 8, by omega⟩ 1 r l (q % 8) (by omega)).trans ?_
  unfold codeByte
  congr 3
  exact Fin.ext (by simp; omega)

/-- A load of the whole block is the block. -/
theorem ld_whole : View.ld x rIn = x := by
  funext y
  obtain ⟨a, b, rfl⟩ : ∃ (a : Fin 4096) (b : Fin 256), y = ix2 a b := ⟨y 0, y 1, (ix2_eta y).symm⟩
  pointwise

/-- What the body leaves in the block of words. -/
theorem outWords_apply (R : Fin 2048) (l : Fin 128) : outWords x (ix2 R l) = word (codeByte x R l) := by
  unfold outWords
  rw [ld_whole]
  refine View.canon_apply_of_pieces (fun y : S2048x128.Idx => word (codeByte x (y 0) (y 1))) _ (fun p hp y => ?_) (ix2 R l) (cover (F := F) _ _ _)
  rcases List.mem_cons.mp hp with rfl | hp
  · obtain ⟨r, l, rfl⟩ : ∃ (r : Fin 1024) (l : Fin 128), y = ix2 r l := ⟨y 0, y 1, (ix2_eta y).symm⟩
    refine (odd_apply x r l).trans ?_
    congr 2
    · exact Fin.ext (by show 2 * r.val + 1 = 1 + 2 * r.val; omega)
    · exact Fin.ext (by show l.val = 0 + 1 * l.val; omega)
  · obtain rfl := List.mem_singleton.mp hp
    obtain ⟨r, l, rfl⟩ : ∃ (r : Fin 1024) (l : Fin 128), y = ix2 r l := ⟨y 0, y 1, (ix2_eta y).symm⟩
    refine (even_apply x r l).trans ?_
    congr 2
    · exact Fin.ext (by show 2 * r.val = 0 + 2 * r.val; omega)
    · exact Fin.ext (by show l.val = 0 + 1 * l.val; omega)

end Cert.Proof.Prep

end
-- ==== Proof.PrepTable.lean ====
/-
  The table of code words as the call leaves it, and the reference's table: the same words.
-/
module

public import proofs.«01_k».proof.Proof.PrepWords
public import proofs.«01_k».proof.Proof.Gen.PrepReference.Run
public import Idealize.ShloMosaic.Lib.BitcastConvert
public import Idealize.ShloMosaic.Lib.Pipeline.ValueKit.Geometry

@[expose] public section

set_option maxRecDepth 16384

noncomputable section

namespace Cert.Proof.Prep

open Cert.Prep Cert.Prep.Gen
open Idealize.ShloMosaic Idealize.ShloMosaic.TcCoe Idealize.ShloMosaic.Tactic

variable {F : FTy → Type} [BitOps F]

/-- Byte `j` of the word in row `R` and lane `l` of the table: the code of voxel `2 R + l / 64` at channel `64 j + l % 64`. -/
def tableByte (X : Vec F S6x65536x256 .fp8e4m3) (R : Fin 196608) (l : Fin 128) (j : Fin 4) : BitVec 8 :=
  bitcastToInt X (ix3 ⟨(2 * R.val + l.val / 64) / 65536, by omega⟩ ⟨(2 * R.val + l.val / 64) % 65536, by omega⟩
    ⟨64 * j.val + l.val % 64, by omega⟩)

/-! ## The kernel's table -/

section Kernel

variable (m : (ℓ : Loc nD τ sig) → Buf (Elt F) ℓ) (c : Dev nD)

/-- The region finds the codes of all voxels in one array of rows. -/
theorem V_main_v0 : V m c main_v0 = shapeCast S393216x256 (m ((c : Thread nD τ).loc main_arg0)) shapeCasts_S6x65536x256_S393216x256 := by
  unfold_abbrev_sides; after_results; rfl

theorem rows_apply (X : Vec F S6x65536x256 .fp8e4m3) (p : Fin 393216) (d : Fin 256) :
    shapeCast S393216x256 X shapeCasts_S6x65536x256_S393216x256 (ix2 p d) = X (ix3 ⟨p.val / 65536, by omega⟩ ⟨p.val % 65536, by omega⟩ d) := by
  refine shapeCast_apply _ _ _ _ ?_
  rw [Shape.rowMajor_val_two, Shape.rowMajor_val_three]
  show (p.val / 65536 * 65536 + p.val % 65536) * 256 + d.val = p.val * 256 + d.val
  omega

/-- The table after the call. -/
theorem table_apply (R : Fin 196608) (l : Fin 128) :
    (dats m 0 c).arrAt 1 cfg0.N (ix2 R l : S196608x128.Idx) = word (tableByte (m ((c : Thread nD τ).loc main_arg0)) R l) := by
  refine congrFun ((dats m 0 c).arrAt_eq_of_covers 1
    (fun y : S196608x128.Idx => word (tableByte (m ((c : Thread nD τ).loc main_arg0)) (y 0) (y 1)))
    (by decide +kernel) fun t hf y => ?_) (ix2 R l : S196608x128.Idx)
  have e0 : ∀ t : Fin cfg0.N, win0_0.index t = ![t.val, 0] := (by decide +kernel : ∀ t : Fin grid0.N, _)
  have e1 : ∀ t : Fin cfg0.N, win0_1.index t = ![t.val, 0] := (by decide +kernel : ∀ t : Fin grid0.N, _)
  obtain ⟨r, l, rfl⟩ : ∃ (r : Fin 2048) (l : Fin 128), y = ix2 r l := ⟨y 0, y 1, (ix2_eta y).symm⟩
  have ht : t.val < 96 := t.isLt
  have hin : ∀ (a : Fin 4096) (d : Fin 256), iblk m c 0 t (ix2 a d) = V m c main_v0 (ix2 ⟨4096 * t.val + a.val, by omega⟩ d : S393216x256.Idx) := by
    intro a d; blk_simp [iblk]; refine congrArg _ ?_; blk_ext [e0]
  have he : ((cfg0.win 1).blk t).view.emb (ix2 r l) = (ix2 ⟨2048 * t.val + r.val, by omega⟩ l : S196608x128.Idx) := by blk_ext [e1]
  rw [he]
  blk_simp
  rw [after0_1, outWords_apply]
  refine congrArg word (funext fun j => ?_)
  unfold codeByte tableByte bitcastToInt
  refine congrArg _ ?_
  rw [hin, V_main_v0, rows_apply]
  congr 2
  · exact Fin.ext (by show (4096 * t.val + (2 * r.val + l.val / 64)) / 65536 = (2 * (2048 * t.val + r.val) + l.val / 64) / 65536; congr 1; omega)
  · exact Fin.ext (by show (4096 * t.val + (2 * r.val + l.val / 64)) % 65536 = (2 * (2048 * t.val + r.val) + l.val / 64) % 65536; congr 1; omega)

end Kernel

/-! ## The reference's table -/

/-- The reference's operations read at an index. -/
theorem reference_apply (X : Vec F S6x65536x256 .fp8e4m3) (R : Fin 196608) (l : Fin 128) :
    shapeCast S196608x128 (Host.bitcastConvertWiden Cert.PrepReference.S393216x64 32 (bitcastToInt (transpose Cert.PrepReference.S393216x64x4 [0, 2, 1]
      (shapeCast Cert.PrepReference.S393216x4x64 X Cert.PrepReference.Gen.shapeCasts_S6x65536x256_S393216x4x64)
      Cert.PrepReference.Gen.transposes_S393216x4x64_S393216x64x4_0_2_1)) Cert.PrepReference.Gen.splits_S393216x64_w32_S393216x64x4_w8)
      Cert.PrepReference.Gen.shapeCasts_S393216x64_S196608x128 (ix2 R l) = word (tableByte X R l) := by
  rw [shapeCast_apply _ _ (ix2 R l) (ix2 ⟨2 * R.val + l.val / 64, by omega⟩ ⟨l.val % 64, by omega⟩) (by
    rw [Shape.rowMajor_val_two, Shape.rowMajor_val_two]
    show (2 * R.val + l.val / 64) * 64 + l.val % 64 = R.val * 128 + l.val
    omega)]
  apply BitVec.eq_of_getLsbD_eq
  intro q hq
  rw [Host.bitcastConvertWiden_getLsbD _ _ _ _ _ q hq, word_getLsbD _ q hq]
  refine congrArg (fun b : BitVec 8 => b.getLsbD (q % 8)) ?_
  have hs : Cert.PrepReference.Gen.splits_S393216x64_w32_S393216x64x4_w8.snoc (ix2 ⟨2 * R.val + l.val / 64, by omega⟩ ⟨l.val % 64, by omega⟩)
      ⟨q / 8, Cert.PrepReference.Gen.splits_S393216x64_w32_S393216x64x4_w8.div_lt hq⟩
      = (ix3 ⟨2 * R.val + l.val / 64, by omega⟩ ⟨l.val % 64, by omega⟩ ⟨q / 8, by omega⟩ : Cert.PrepReference.S393216x64x4.Idx) := by
    funext a
    match a with
    | ⟨0, _⟩ => rfl
    | ⟨1, _⟩ => rfl
    | ⟨2, _⟩ => rfl
  rw [hs]
  unfold tableByte bitcastToInt
  refine congrArg _ ?_
  pointwise
  congr 2
  exact Fin.ext (by simp; omega)

end Cert.Proof.Prep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepReference
public import proofs.«01_k».proof.Proof.Gen.PrepReference.Run
public import proofs.«01_k».proof.Proof.Equation
public import proofs.«01_k».proof.Proof.KernelRun
public import proofs.«01_k».proof.Proof.PrepTable
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's result is the reference's over the ideal numbers, with no precondition. -/
theorem algebraic : algebraic_KernelIdeal_ReferenceIdeal := fun m ρ m' ρ' _ hagree =>
  ⟨fun c => Cert.KernelIdeal.Gen.W13 m ρ c (Proc.devRef .tc Cert.KernelIdeal.main_v13),
    (θ_run Cert.KernelIdeal.defs _ _).mono (fun _ h c => ⟨h.1 c, h.2 c⟩)
      (θ_run_and (Cert.KernelIdeal.Gen.result_run m ρ) (Cert.KernelIdeal.Gen.unchanged m ρ)),
    (θ_run Cert.ReferenceIdeal.defs _ _).mono (fun _ h c => ⟨(h.1.out_eq c 10).trans (by
        obtain ⟨h0, h1, h2, h3, h4, h5, h6, h7, h8, h9⟩ := hagree c
        exact (result_eq m ρ m' c h0 h1 h2 h3 h4 h5 h6 h7 h8 h9).symm), h.2 c⟩)
      (θ_run_and (Cert.ReferenceIdeal.Gen.run_main m' ρ') (Cert.ReferenceIdeal.Gen.unchanged m' ρ'))⟩

/-- The reference of the table ends with its argument unchanged; it declares no semaphore. -/
theorem prep_reference_frame : quiescent_PrepReference := fun m ρ _ =>
  (θ_run Cert.PrepReference.defs _ _).mono (fun r h => ⟨fun c => (h c).2, sem_eq_zero_of_no_sems rfl r.2⟩)
    (Cert.PrepReference.Value.run m ρ)

/-- The kernel's table of code words is the reference's, word for word, with no precondition. -/
theorem prep_bitexact : bitexact_Prep_PrepReference := fun m ρ m' ρ' _ hagree =>
  ⟨fun c => (Cert.Prep.Gen.dats m 0 c).arrAt 1 Cert.Prep.cfg0.N,
    (θ_run Cert.Prep.defs _ _).mono (fun _ h c => ⟨h.1.out_eq c 1, h.2 c⟩)
      (θ_run_and (Cert.Prep.Gen.run_main m ρ) (Cert.Prep.Gen.unchanged m ρ)),
    (θ_run Cert.PrepReference.defs _ _).mono (fun _ h c => ⟨(h c).1.trans (by
        rw [hagree c]
        funext y
        obtain ⟨R, l, rfl⟩ : ∃ (R : Fin 196608) (l : Fin 128), y = ix2 R l := ⟨y 0, y 1, (ix2_eta y).symm⟩
        exact (Prep.reference_apply _ R l).trans (Prep.table_apply m c R l).symm), (h c).2⟩)
      (Cert.PrepReference.Value.run m' ρ')⟩

theorem claim : Cert.Claim := ⟨Cert.Kernel.Gen.facts, Cert.KernelIdeal.Gen.facts, Cert.ReferenceIdeal.Gen.facts,
  Cert.Prep.Gen.facts, Cert.PrepReference.Gen.facts,
  fun m ρ _ => Cert.Kernel.Gen.frame m ρ, fun m ρ _ => Cert.KernelIdeal.Gen.frame m ρ, fun m ρ _ => Cert.ReferenceIdeal.Gen.frame m ρ,
  fun m ρ _ => Cert.Prep.Gen.frame m ρ, prep_reference_frame,
  trivial, algebraic, prep_bitexact⟩

end Cert.Proof

end
